-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "bin_min" .f32 0x3BC49BA6#32 ((3 / 500 : ℝ) : EReal)
  ∧ IdealRules.named_const.Statement Cert.KernelIdeal.κ "bin_scale" .f32 0x40BE76C9#32 ((744 / 125 : ℝ) : EReal)
  ∧ IdealRules.named_const.Statement Cert.KernelIdeal.κ "milli" .f32 0x3A83126F#32 ((1 / 1000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v618) = v0 c
          ∧ r.2.mem ((c.tc : Thread Cert.ReferenceIdeal.nD Cert.ReferenceIdeal.τ).loc Cert.ReferenceIdeal.main_v620) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x12x128x128 : Shape := ⟨4, ![16, 12, 128, 128]⟩
abbrev S16 : Shape := ⟨1, ![16]⟩
abbrev S16x4x128x128 : Shape := ⟨4, ![16, 4, 128, 128]⟩
abbrev S64x16x3x3 : Shape := ⟨4, ![64, 16, 3, 3]⟩
abbrev S64 : Shape := ⟨1, ![64]⟩
abbrev S64x64x1x1 : Shape := ⟨4, ![64, 64, 1, 1]⟩
abbrev S276x64x3x3 : Shape := ⟨4, ![276, 64, 3, 3]⟩
abbrev S276 : Shape := ⟨1, ![276]⟩
abbrev S288 : Shape := ⟨1, ![288]⟩
abbrev S_ : Shape := ⟨0, ![]⟩
abbrev S16x12x132x128 : Shape := ⟨4, ![16, 12, 132, 128]⟩
abbrev S16x12x16896 : Shape := ⟨3, ![16, 12, 16896]⟩
abbrev S16x4x132x128 : Shape := ⟨4, ![16, 4, 132, 128]⟩
abbrev S16x4x16896 : Shape := ⟨3, ![16, 4, 16896]⟩
abbrev S64x16x1x1 : Shape := ⟨4, ![64, 16, 1, 1]⟩
abbrev S64x16 : Shape := ⟨2, ![64, 16]⟩
abbrev S64x48 : Shape := ⟨2, ![64, 48]⟩
abbrev S1x64x48 : Shape := ⟨3, ![1, 64, 48]⟩
abbrev S3x64x48 : Shape := ⟨3, ![3, 64, 48]⟩
abbrev S64x1 : Shape := ⟨2, ![64, 1]⟩
abbrev S64x64 : Shape := ⟨2, ![64, 64]⟩
abbrev S1x64x3x3 : Shape := ⟨4, ![1, 64, 3, 3]⟩
abbrev S277x64x3x3 : Shape := ⟨4, ![277, 64, 3, 3]⟩
abbrev S288x1 : Shape := ⟨2, ![288, 1]⟩
abbrev S288x64x3x3 : Shape := ⟨4, ![288, 64, 3, 3]⟩
abbrev S1 : Shape := ⟨1, ![1]⟩
abbrev S277 : Shape := ⟨1, ![277]⟩
abbrev S288x64x1x1 : Shape := ⟨4, ![288, 64, 1, 1]⟩
abbrev S288x64 : Shape := ⟨2, ![288, 64]⟩
abbrev S288x192 : Shape := ⟨2, ![288, 192]⟩
abbrev S1x288x192 : Shape := ⟨3, ![1, 288, 192]⟩
abbrev S3x288x192 : Shape := ⟨3, ![3, 288, 192]⟩
abbrev S16x12x16384 : Shape := ⟨3, ![16, 12, 16384]⟩
abbrev S16x4x1x4096 : Shape := ⟨4, ![16, 4, 1, 4096]⟩
abbrev S1x12x16896 : Shape := ⟨3, ![1, 12, 16896]⟩
abbrev S1x4x16896 : Shape := ⟨3, ![1, 4, 16896]⟩
abbrev S1x12x4096 : Shape := ⟨3, ![1, 12, 4096]⟩
abbrev S1x1x1x4096 : Shape := ⟨4, ![1, 1, 1, 4096]⟩
abbrev S1x4608 : Shape := ⟨2, ![1, 4608]⟩
abbrev S1x12x4608 : Shape := ⟨3, ![1, 12, 4608]⟩
abbrev S12x4608 : Shape := ⟨2, ![12, 4608]⟩
abbrev S1x4x4608 : Shape := ⟨3, ![1, 4, 4608]⟩
abbrev S4x4608 : Shape := ⟨2, ![4, 4608]⟩
abbrev S16x4608 : Shape := ⟨2, ![16, 4608]⟩
abbrev S16x4352 : Shape := ⟨2, ![16, 4352]⟩
abbrev S48x4352 : Shape := ⟨2, ![48, 4352]⟩
abbrev S64x4352 : Shape := ⟨2, ![64, 4352]⟩
abbrev S1x4352 : Shape := ⟨2, ![1, 4352]⟩
abbrev S64x4096 : Shape := ⟨2, ![64, 4096]⟩
abbrev S192x4096 : Shape := ⟨2, ![192, 4096]⟩
abbrev S288x4096 : Shape := ⟨2, ![288, 4096]⟩
abbrev S96x4096 : Shape := ⟨2, ![96, 4096]⟩
abbrev S12x8x4096 : Shape := ⟨3, ![12, 8, 4096]⟩
abbrev S12x4096 : Shape := ⟨2, ![12, 4096]⟩
abbrev S12x1x4096 : Shape := ⟨3, ![12, 1, 4096]⟩
abbrev S192x192 : Shape := ⟨2, ![192, 192]⟩
abbrev S192x1 : Shape := ⟨2, ![192, 1]⟩
abbrev S1x4096 : Shape := ⟨2, ![1, 4096]⟩
abbrev S12x96 : Shape := ⟨2, ![12, 96]⟩
abbrev S4096 : Shape := ⟨1, ![4096]⟩

abbrev nBuf : Space → Nat
  | .hbm => 98
  | .vmem => 14
  | .smem => 0
  | _ => 0

abbrev bufTy : (tb : Table) → Fin (tcTables nBuf tb) → BufTy
  | .hbm, ⟨0, _⟩ => ⟨S16x12x128x128, .f32⟩
  | .hbm, ⟨1, _⟩ => ⟨S16, .f32⟩
  | .hbm, ⟨2, _⟩ => ⟨S16x4x128x128, .f32⟩
  | .hbm, ⟨3, _⟩ => ⟨S64x16x3x3, .f32⟩
  | .hbm, ⟨4, _⟩ => ⟨S64, .f32⟩
  | .hbm, ⟨5, _⟩ => ⟨S64x64x1x1, .f32⟩
  | .hbm, ⟨6, _⟩ => ⟨S64, .f32⟩
  | .hbm, ⟨7, _⟩ => ⟨S276x64x3x3, .f32⟩
  | .hbm, ⟨8, _⟩ => ⟨S276, .f32⟩
  | .hbm, ⟨9, _⟩ => ⟨S288, .i32⟩
  | .hbm, ⟨10, _⟩ => ⟨S288, .i1⟩
  | .hbm, ⟨11, _⟩ => ⟨S288, .i1⟩
  | .hbm, ⟨12, _⟩ => ⟨S_, .i32⟩
  | .hbm, ⟨13, _⟩ => ⟨S_, .f32⟩
  | .hbm, ⟨14, _⟩ => ⟨S16x12x132x128, .f32⟩
  | .hbm, ⟨15, _⟩ => ⟨S16x12x16896, .f32⟩
  | .hbm, ⟨16, _⟩ => ⟨S_, .i32⟩
  | .hbm, ⟨17, _⟩ => ⟨S_, .f32⟩
  | .hbm, ⟨18, _⟩ => ⟨S16x4x132x128, .f32⟩
  | .hbm, ⟨19, _⟩ => ⟨S16x4x16896, .f32⟩
  | .hbm, ⟨20, _⟩ => ⟨S64x16x1x1, .f32⟩
  | .hbm, ⟨21, _⟩ => ⟨S64x16, .f32⟩
  | .hbm, ⟨22, _⟩ => ⟨S64x16x1x1, .f32⟩
  | .hbm, ⟨23, _⟩ => ⟨S64x16, .f32⟩
  | .hbm, ⟨24, _⟩ => ⟨S64x16x1x1, .f32⟩
  | .hbm, ⟨25, _⟩ => ⟨S64x16, .f32⟩
  | .hbm, ⟨26, _⟩ => ⟨S64x48, .f32⟩
  | .hbm, ⟨27, _⟩ => ⟨S64x16x1x1, .f32⟩
  | .hbm, ⟨28, _⟩ => ⟨S64x16, .f32⟩
  | .hbm, ⟨29, _⟩ => ⟨S64x16x1x1, .f32⟩
  | .hbm, ⟨30, _⟩ => ⟨S64x16, .f32⟩
  | .hbm, ⟨31, _⟩ => ⟨S64x16x1x1, .f32⟩
  | .hbm, ⟨32, _⟩ => ⟨S64x16, .f32⟩
  | .hbm, ⟨33, _⟩ => ⟨S64x48, .f32⟩
  | .hbm, ⟨34, _⟩ => ⟨S64x16x1x1, .f32⟩
  | .hbm, ⟨35, _⟩ => ⟨S64x16, .f32⟩
  | .hbm, ⟨36, _⟩ => ⟨S64x16x1x1, .f32⟩
  | .hbm, ⟨37, _⟩ => ⟨S64x16, .f32⟩
  | .hbm, ⟨38, _⟩ => ⟨S64x16x1x1, .f32⟩
  | .hbm, ⟨39, _⟩ => ⟨S64x16, .f32⟩
  | .hbm, ⟨40, _⟩ => ⟨S64x48, .f32⟩
  | .hbm, ⟨41, _⟩ => ⟨S1x64x48, .f32⟩
  | .hbm, ⟨42, _⟩ => ⟨S1x64x48, .f32⟩
  | .hbm, ⟨43, _⟩ => ⟨S1x64x48, .f32⟩
  | .hbm, ⟨44, _⟩ => ⟨S3x64x48, .f32⟩
  | .hbm, ⟨45, _⟩ => ⟨S64x1, .f32⟩
  | .hbm, ⟨46, _⟩ => ⟨S64x64, .f32⟩
  | .hbm, ⟨47, _⟩ => ⟨S64x1, .f32⟩
  | .hbm, ⟨48, _⟩ => ⟨S_, .f32⟩
  | .hbm, ⟨49, _⟩ => ⟨S1x64x3x3, .f32⟩
  | .hbm, ⟨50, _⟩ => ⟨S277x64x3x3, .f32⟩
  | .hbm, ⟨51, _⟩ => ⟨S_, .i32⟩
  | .hbm, ⟨52, _⟩ => ⟨S288, .i32⟩
  | .hbm, ⟨53, _⟩ => ⟨S288, .i32⟩
  | .hbm, ⟨54, _⟩ => ⟨S288, .i32⟩
  | .hbm, ⟨55, _⟩ => ⟨S288x1, .i32⟩
  | .hbm, ⟨56, _⟩ => ⟨S288x64x3x3, .f32⟩
  | .hbm, ⟨57, _⟩ => ⟨S_, .f32⟩
  | .hbm, ⟨58, _⟩ => ⟨S1, .f32⟩
  | .hbm, ⟨59, _⟩ => ⟨S277, .f32⟩
  | .hbm, ⟨60, _⟩ => ⟨S_, .i32⟩
  | .hbm, ⟨61, _⟩ => ⟨S288, .i32⟩
  | .hbm, ⟨62, _⟩ => ⟨S288, .i32⟩
  | .hbm, ⟨63, _⟩ => ⟨S288, .i32⟩
  | .hbm, ⟨64, _⟩ => ⟨S288x1, .i32⟩
  | .hbm, ⟨65, _⟩ => ⟨S288, .f32⟩
  | .hbm, ⟨66, _⟩ => ⟨S288x64x1x1, .f32⟩
  | .hbm, ⟨67, _⟩ => ⟨S288x64, .f32⟩
  | .hbm, ⟨68, _⟩ => ⟨S288x64x1x1, .f32⟩
  | .hbm, ⟨69, _⟩ => ⟨S288x64, .f32⟩
  | .hbm, ⟨70, _⟩ => ⟨S288x64x1x1, .f32⟩
  | .hbm, ⟨71, _⟩ => ⟨S288x64, .f32⟩
  | .hbm, ⟨72, _⟩ => ⟨S288x192, .f32⟩
  | .hbm, ⟨73, _⟩ => ⟨S288x64x1x1, .f32⟩
  | .hbm, ⟨74, _⟩ => ⟨S288x64, .f32⟩
  | .hbm, ⟨75, _⟩ => ⟨S288x64x1x1, .f32⟩
  | .hbm, ⟨76, _⟩ => ⟨S288x64, .f32⟩
  | .hbm, ⟨77, _⟩ => ⟨S288x64x1x1, .f32⟩
  | .hbm, ⟨78, _⟩ => ⟨S288x64, .f32⟩
  | .hbm, ⟨79, _⟩ => ⟨S288x192, .f32⟩
  | .hbm, ⟨80, _⟩ => ⟨S288x64x1x1, .f32⟩
  | .hbm, ⟨81, _⟩ => ⟨S288x64, .f32⟩
  | .hbm, ⟨82, _⟩ => ⟨S288x64x1x1, .f32⟩
  | .hbm, ⟨83, _⟩ => ⟨S288x64, .f32⟩
  | .hbm, ⟨84, _⟩ => ⟨S288x64x1x1, .f32⟩
  | .hbm, ⟨85, _⟩ => ⟨S288x64, .f32⟩
  | .hbm, ⟨86, _⟩ => ⟨S288x192, .f32⟩
  | .hbm, ⟨87, _⟩ => ⟨S1x288x192, .f32⟩
  | .hbm, ⟨88, _⟩ => ⟨S1x288x192, .f32⟩
  | .hbm, ⟨89, _⟩ => ⟨S1x288x192, .f32⟩
  | .hbm, ⟨90, _⟩ => ⟨S3x288x192, .f32⟩
  | .hbm, ⟨91, _⟩ => ⟨S288x1, .f32⟩
  | .hbm, ⟨92, _⟩ => ⟨S16x12x16384, .f32⟩
  | .hbm, ⟨93, _⟩ => ⟨S16x4x1x4096, .f32⟩
  | .hbm, ⟨94, _⟩ => ⟨S16x12x128x128, .f32⟩
  | .hbm, ⟨95, _⟩ => ⟨S_, .f32⟩
  | .hbm, ⟨96, _⟩ => ⟨S16, .f32⟩
  | .hbm, ⟨97, _⟩ => ⟨S16, .f32⟩
  | .local _ .vmem, ⟨0, _⟩ => ⟨S1x12x16896, .f32⟩
  | .local _ .vmem, ⟨1, _⟩ => ⟨S1x12x16896, .f32⟩
  | .local _ .vmem, ⟨2, _⟩ => ⟨S1x4x16896, .f32⟩
  | .local _ .vmem, ⟨3, _⟩ => ⟨S1x4x16896, .f32⟩
  | .local _ .vmem, ⟨4, _⟩ => ⟨S3x64x48, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S3x288x192, .f32⟩
  | .local _ .vmem, ⟨9, _⟩ => ⟨S288x1, .f32⟩
  | .local _ .vmem, ⟨10, _⟩ => ⟨S1x12x4096, .f32⟩
  | .local _ .vmem, ⟨11, _⟩ => ⟨S1x12x4096, .f32⟩
  | .local _ .vmem, ⟨12, _⟩ => ⟨S1x1x1x4096, .f32⟩
  | .local _ .vmem, ⟨13, _⟩ => ⟨S1x1x1x4096, .f32⟩
  | _, _ => ⟨S16x12x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_c_3 : Ref sig .tc := ⟨.hbm, 16, rfl⟩
abbrev main_call1_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72_0 : Ref sig .tc := ⟨.hbm, 92, rfl⟩
abbrev main_v72_1 : Ref sig .tc := ⟨.hbm, 93, rfl⟩
abbrev main_v73 : Ref sig .tc := ⟨.hbm, 94, rfl⟩
abbrev main_cst_7 : Ref sig .tc := ⟨.hbm, 95, rfl⟩
abbrev main_v74 : Ref sig .tc := ⟨.hbm, 96, rfl⟩
abbrev main_v75 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0 : Index := 0#32
  let c0_9 : Index := 0#32
  let arg1 : BitVec 32 := BitVec.ofNat 32 (i 1).val
  let c4096_i32 : BitVec 32 := 4096#32
  let v43 : BitVec 32 := Scalar.muli arg1 c4096_i32
  let v44 : Index := Scalar.indexCast v43
  ![0, 0, v44.toNat]
def k0_off2 (i : grid0.Coords) : Fin 3 → Nat :=
  let c0_11 : Index := 0#32
  let c0_12 : Index := 0#32
  let arg1 : BitVec 32 := BitVec.ofNat 32 (i 1).val
  let c4096_i32_10 : BitVec 32 := 4096#32
  let v47 : BitVec 32 := Scalar.muli arg1 c4096_i32_10
  let v48 : Index := Scalar.indexCast v47
  ![0, 0, v48.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x12x16896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x16896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x64x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x288x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x12x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "bin_min" => some ((3 / 500 : ℝ) : EReal)
  | "bin_scale" => some ((744 / 125 : ℝ) : EReal)
  | "milli" => some ((1 / 1000 : ℝ) : EReal)
  | _ => none
-- ==== ReferenceIdeal.lean ====
abbrev S16x12x128x128 : Shape := ⟨4, ![16, 12, 128, 128]⟩
abbrev S16 : Shape := ⟨1, ![16]⟩
abbrev S16x4x128x128 : Shape := ⟨4, ![16, 4, 128, 128]⟩
abbrev S64x16x3x3 : Shape := ⟨4, ![64, 16, 3, 3]⟩
abbrev S64 : Shape := ⟨1, ![64]⟩
abbrev S64x64x1x1 : Shape := ⟨4, ![64, 64, 1, 1]⟩
abbrev S276x64x3x3 : Shape := ⟨4, ![276, 64, 3, 3]⟩
abbrev S276 : Shape := ⟨1, ![276]⟩
abbrev S128 : Shape := ⟨1, ![128]⟩
abbrev S128x128 : Shape := ⟨2, ![128, 128]⟩
abbrev S_ : Shape := ⟨0, ![]⟩
abbrev S1x1x128x128 : Shape := ⟨4, ![1, 1, 128, 128]⟩
abbrev S16x16x128x128 : Shape := ⟨4, ![16, 16, 128, 128]⟩
abbrev S16x16x130x130 : Shape := ⟨4, ![16, 16, 130, 130]⟩
abbrev S64x16x1x1 : Shape := ⟨4, ![64, 16, 1, 1]⟩
abbrev S64x16 : Shape := ⟨2, ![64, 16]⟩
abbrev S16x128x128x64 : Shape := ⟨4, ![16, 128, 128, 64]⟩
abbrev S16x64x128x128 : Shape := ⟨4, ![16, 64, 128, 128]⟩
abbrev S1x64x1x1 : Shape := ⟨4, ![1, 64, 1, 1]⟩
abbrev S64x64 : Shape := ⟨2, ![64, 64]⟩
abbrev S16x64x130x130 : Shape := ⟨4, ![16, 64, 130, 130]⟩
abbrev S276x64x1x1 : Shape := ⟨4, ![276, 64, 1, 1]⟩
abbrev S276x64 : Shape := ⟨2, ![276, 64]⟩
abbrev S16x128x128x276 : Shape := ⟨4, ![16, 128, 128, 276]⟩
abbrev S16x276x128x128 : Shape := ⟨4, ![16, 276, 128, 128]⟩
abbrev S1x276x1x1 : Shape := ⟨4, ![1, 276, 1, 1]⟩
abbrev S16x12x23x128x128 : Shape := ⟨5, ![16, 12, 23, 128, 128]⟩
abbrev S16x12x128x128x23 : Shape := ⟨5, ![16, 12, 128, 128, 23]⟩
abbrev S16x12x128x128x8 : Shape := ⟨5, ![16, 12, 128, 128, 8]⟩
abbrev S16x12x128x128x7 : Shape := ⟨5, ![16, 12, 128, 128, 7]⟩
abbrev S16x12x128x128x1 : Shape := ⟨5, ![16, 12, 128, 128, 1]⟩
abbrev S16x12x128x128x2 : Shape := ⟨5, ![16, 12, 128, 128, 2]⟩
abbrev S16x12x128x128x3 : Shape := ⟨5, ![16, 12, 128, 128, 3]⟩
abbrev S16x12x128x128x4 : Shape := ⟨5, ![16, 12, 128, 128, 4]⟩
abbrev S16x12x128x128x5 : Shape := ⟨5, ![16, 12, 128, 128, 5]⟩
abbrev S16x12x128x128x6 : Shape := ⟨5, ![16, 12, 128, 128, 6]⟩
abbrev S16x12x128x128x9 : Shape := ⟨5, ![16, 12, 128, 128, 9]⟩

abbrev nBuf : Space → Nat
  | .hbm => 804
  | .vmem => 0
  | .smem => 0
  | _ => 0

abbrev hbmTy0_0 (i : Nat) : BufTy := match i % 128 with
  | 0 => ⟨S16x12x128x128, .f32⟩
  | 1 => ⟨S16, .f32⟩
  | 2 => ⟨S16x4x128x128, .f32⟩
  | 3 => ⟨S64x16x3x3, .f32⟩
  | 4 => ⟨S64, .f32⟩
  | 5 => ⟨S64x64x1x1, .f32⟩
  | 6 => ⟨S64, .f32⟩
  | 7 => ⟨S276x64x3x3, .f32⟩
  | 8 => ⟨S276, .f32⟩
  | 9 => ⟨S128, .i32⟩
  | 10 => ⟨S128, .i32⟩
  | 11 => ⟨S128x128, .i32⟩
  | 12 => ⟨S128x128, .i32⟩
  | 13 => ⟨S128x128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S128x128, .i32⟩
  | 21 => ⟨S128x128, .i32⟩
  | 22 => ⟨S_, .i32⟩
  | 23 => ⟨S128x128, .i32⟩
  | 24 => ⟨S128x128, .i1⟩
  | 25 => ⟨S_, .i32⟩
  | 26 => ⟨S128x128, .i32⟩
  | 27 => ⟨S128x128, .i1⟩
  | 28 => ⟨S_, .i32⟩
  | 29 => ⟨S_, .i1⟩
  | 30 => ⟨S128x128, .i1⟩
  | 31 => ⟨S128x128, .i1⟩
  | 32 => ⟨S128x128, .i1⟩
  | 33 => ⟨S128x128, .i32⟩
  | 34 => ⟨S128x128, .i32⟩
  | 35 => ⟨S128x128, .i32⟩
  | 36 => ⟨S_, .i32⟩
  | 37 => ⟨S128x128, .i32⟩
  | 38 => ⟨S128x128, .i1⟩
  | 39 => ⟨S_, .i32⟩
  | 40 => ⟨S_, .i32⟩
  | 41 => ⟨S128x128, .i32⟩
  | 42 => ⟨S128x128, .i32⟩
  | 43 => ⟨S128x128, .i32⟩
  | 44 => ⟨S128x128, .f32⟩
  | 45 => ⟨S1x1x128x128, .f32⟩
  | 46 => ⟨S16x12x128x128, .f32⟩
  | 47 => ⟨S16x12x128x128, .f32⟩
  | 48 => ⟨S_, .f32⟩
  | 49 => ⟨S1x1x128x128, .f32⟩
  | 50 => ⟨S1x1x128x128, .f32⟩
  | 51 => ⟨S16x12x128x128, .f32⟩
  | 52 => ⟨S16x12x128x128, .f32⟩
  | 53 => ⟨S16x16x128x128, .f32⟩
  | 54 => ⟨S_, .i32⟩
  | 55 => ⟨S_, .f32⟩
  | 56 => ⟨S16x16x130x130, .f32⟩
  | 57 => ⟨S64x16x1x1, .f32⟩
  | 58 => ⟨S64x16, .f32⟩
  | 59 => ⟨S16x16x128x128, .f32⟩
  | 60 => ⟨S16x128x128x64, .f32⟩
  | 61 => ⟨S16x64x128x128, .f32⟩
  | 62 => ⟨S_, .f32⟩
  | 63 => ⟨S16x64x128x128, .f32⟩
  | 64 => ⟨S16x64x128x128, .f32⟩
  | 65 => ⟨S64x16x1x1, .f32⟩
  | 66 => ⟨S64x16, .f32⟩
  | 67 => ⟨S16x16x128x128, .f32⟩
  | 68 => ⟨S16x128x128x64, .f32⟩
  | 69 => ⟨S16x64x128x128, .f32⟩
  | 70 => ⟨S16x64x128x128, .f32⟩
  | 71 => ⟨S64x16x1x1, .f32⟩
  | 72 => ⟨S64x16, .f32⟩
  | 73 => ⟨S16x16x128x128, .f32⟩
  | 74 => ⟨S16x128x128x64, .f32⟩
  | 75 => ⟨S16x64x128x128, .f32⟩
  | 76 => ⟨S16x64x128x128, .f32⟩
  | 77 => ⟨S64x16x1x1, .f32⟩
  | 78 => ⟨S64x16, .f32⟩
  | 79 => ⟨S16x16x128x128, .f32⟩
  | 80 => ⟨S16x128x128x64, .f32⟩
  | 81 => ⟨S16x64x128x128, .f32⟩
  | 82 => ⟨S16x64x128x128, .f32⟩
  | 83 => ⟨S64x16x1x1, .f32⟩
  | 84 => ⟨S64x16, .f32⟩
  | 85 => ⟨S16x16x128x128, .f32⟩
  | 86 => ⟨S16x128x128x64, .f32⟩
  | 87 => ⟨S16x64x128x128, .f32⟩
  | 88 => ⟨S16x64x128x128, .f32⟩
  | 89 => ⟨S64x16x1x1, .f32⟩
  | 90 => ⟨S64x16, .f32⟩
  | 91 => ⟨S16x16x128x128, .f32⟩
  | 92 => ⟨S16x128x128x64, .f32⟩
  | 93 => ⟨S16x64x128x128, .f32⟩
  | 94 => ⟨S16x64x128x128, .f32⟩
  | 95 => ⟨S64x16x1x1, .f32⟩
  | 96 => ⟨S64x16, .f32⟩
  | 97 => ⟨S16x16x128x128, .f32⟩
  | 98 => ⟨S16x128x128x64, .f32⟩
  | 99 => ⟨S16x64x128x128, .f32⟩
  | 100 => ⟨S16x64x128x128, .f32⟩
  | 101 => ⟨S64x16x1x1, .f32⟩
  | 102 => ⟨S64x16, .f32⟩
  | 103 => ⟨S16x16x128x128, .f32⟩
  | 104 => ⟨S16x128x128x64, .f32⟩
  | 105 => ⟨S16x64x128x128, .f32⟩
  | 106 => ⟨S16x64x128x128, .f32⟩
  | 107 => ⟨S64x16x1x1, .f32⟩
  | 108 => ⟨S64x16, .f32⟩
  | 109 => ⟨S16x16x128x128, .f32⟩
  | 110 => ⟨S16x128x128x64, .f32⟩
  | 111 => ⟨S16x64x128x128, .f32⟩
  | 112 => ⟨S16x64x128x128, .f32⟩
  | 113 => ⟨S1x64x1x1, .f32⟩
  | 114 => ⟨S16x64x128x128, .f32⟩
  | 115 => ⟨S16x64x128x128, .f32⟩
  | 116 => ⟨S_, .f32⟩
  | 117 => ⟨S16x64x128x128, .f32⟩
  | 118 => ⟨S16x64x128x128, .f32⟩
  | 119 => ⟨S_, .i32⟩
  | 120 => ⟨S_, .f32⟩
  | 121 => ⟨S16x64x128x128, .f32⟩
  | 122 => ⟨S64x64, .f32⟩
  | 123 => ⟨S16x128x128x64, .f32⟩
  | 124 => ⟨S16x64x128x128, .f32⟩
  | 125 => ⟨S_, .f32⟩
  | 126 => ⟨S16x64x128x128, .f32⟩
  | 127 => ⟨S16x64x128x128, .f32⟩
  | _ => ⟨S16x12x128x128, .f32⟩

abbrev hbmTy0_1 (i : Nat) : BufTy := match i % 128 with
  | 0 => ⟨S1x64x1x1, .f32⟩
  | 1 => ⟨S16x64x128x128, .f32⟩
  | 2 => ⟨S16x64x128x128, .f32⟩
  | 3 => ⟨S_, .f32⟩
  | 4 => ⟨S16x64x128x128, .f32⟩
  | 5 => ⟨S16x64x128x128, .f32⟩
  | 6 => ⟨S_, .i32⟩
  | 7 => ⟨S_, .f32⟩
  | 8 => ⟨S16x64x130x130, .f32⟩
  | 9 => ⟨S276x64x1x1, .f32⟩
  | 10 => ⟨S276x64, .f32⟩
  | 11 => ⟨S16x64x128x128, .f32⟩
  | 12 => ⟨S16x128x128x276, .f32⟩
  | 13 => ⟨S16x276x128x128, .f32⟩
  | 14 => ⟨S_, .f32⟩
  | 15 => ⟨S16x276x128x128, .f32⟩
  | 16 => ⟨S16x276x128x128, .f32⟩
  | 17 => ⟨S276x64x1x1, .f32⟩
  | 18 => ⟨S276x64, .f32⟩
  | 19 => ⟨S16x64x128x128, .f32⟩
  | 20 => ⟨S16x128x128x276, .f32⟩
  | 21 => ⟨S16x276x128x128, .f32⟩
  | 22 => ⟨S16x276x128x128, .f32⟩
  | 23 => ⟨S276x64x1x1, .f32⟩
  | 24 => ⟨S276x64, .f32⟩
  | 25 => ⟨S16x64x128x128, .f32⟩
  | 26 => ⟨S16x128x128x276, .f32⟩
  | 27 => ⟨S16x276x128x128, .f32⟩
  | 28 => ⟨S16x276x128x128, .f32⟩
  | 29 => ⟨S276x64x1x1, .f32⟩
  | 30 => ⟨S276x64, .f32⟩
  | 31 => ⟨S16x64x128x128, .f32⟩
  | 32 => ⟨S16x128x128x276, .f32⟩
  | 33 => ⟨S16x276x128x128, .f32⟩
  | 34 => ⟨S16x276x128x128, .f32⟩
  | 35 => ⟨S276x64x1x1, .f32⟩
  | 36 => ⟨S276x64, .f32⟩
  | 37 => ⟨S16x64x128x128, .f32⟩
  | 38 => ⟨S16x128x128x276, .f32⟩
  | 39 => ⟨S16x276x128x128, .f32⟩
  | 40 => ⟨S16x276x128x128, .f32⟩
  | 41 => ⟨S276x64x1x1, .f32⟩
  | 42 => ⟨S276x64, .f32⟩
  | 43 => ⟨S16x64x128x128, .f32⟩
  | 44 => ⟨S16x128x128x276, .f32⟩
  | 45 => ⟨S16x276x128x128, .f32⟩
  | 46 => ⟨S16x276x128x128, .f32⟩
  | 47 => ⟨S276x64x1x1, .f32⟩
  | 48 => ⟨S276x64, .f32⟩
  | 49 => ⟨S16x64x128x128, .f32⟩
  | 50 => ⟨S16x128x128x276, .f32⟩
  | 51 => ⟨S16x276x128x128, .f32⟩
  | 52 => ⟨S16x276x128x128, .f32⟩
  | 53 => ⟨S276x64x1x1, .f32⟩
  | 54 => ⟨S276x64, .f32⟩
  | 55 => ⟨S16x64x128x128, .f32⟩
  | 56 => ⟨S16x128x128x276, .f32⟩
  | 57 => ⟨S16x276x128x128, .f32⟩
  | 58 => ⟨S16x276x128x128, .f32⟩
  | 59 => ⟨S276x64x1x1, .f32⟩
  | 60 => ⟨S276x64, .f32⟩
  | 61 => ⟨S16x64x128x128, .f32⟩
  | 62 => ⟨S16x128x128x276, .f32⟩
  | 63 => ⟨S16x276x128x128, .f32⟩
  | 64 => ⟨S16x276x128x128, .f32⟩
  | 65 => ⟨S1x276x1x1, .f32⟩
  | 66 => ⟨S16x276x128x128, .f32⟩
  | 67 => ⟨S16x276x128x128, .f32⟩
  | 68 => ⟨S16x12x23x128x128, .f32⟩
  | 69 => ⟨S16x12x128x128x23, .f32⟩
  | 70 => ⟨S16x12x128x128x8, .f32⟩
  | 71 => ⟨S16x12x128x128x8, .f32⟩
  | 72 => ⟨S16x12x128x128x7, .f32⟩
  | 73 => ⟨S_, .f32⟩
  | 74 => ⟨S16x12x128x128, .f32⟩
  | 75 => ⟨S16x12x128x128, .i1⟩
  | 76 => ⟨S_, .f32⟩
  | 77 => ⟨S16x12x128x128, .f32⟩
  | 78 => ⟨S16x12x128x128, .i1⟩
  | 79 => ⟨S16x12x128x128, .i1⟩
  | 80 => ⟨S_, .f32⟩
  | 81 => ⟨S_, .f32⟩
  | 82 => ⟨S_, .f32⟩
  | 83 => ⟨S16x12x128x128, .f32⟩
  | 84 => ⟨S16x12x128x128, .f32⟩
  | 85 => ⟨S_, .f32⟩
  | 86 => ⟨S16x12x128x128, .f32⟩
  | 87 => ⟨S16x12x128x128, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16x12x128x128, .f32⟩
  | 100 => ⟨S_, .f32⟩
  | 101 => ⟨S16x12x128x128, .f32⟩
  | 102 => ⟨S16x12x128x128, .f32⟩
  | 103 => ⟨S16x12x128x128x1, .f32⟩
  | 104 => ⟨S16x12x128x128x8, .f32⟩
  | 105 => ⟨S16x12x128x128x8, .f32⟩
  | 106 => ⟨S16x12x128x128x8, .f32⟩
  | 107 => ⟨S_, .f32⟩
  | 108 => ⟨S16x12x128x128, .f32⟩
  | 109 => ⟨S16x12x128x128x1, .f32⟩
  | 110 => ⟨S16x12x128x128x8, .f32⟩
  | 111 => ⟨S16x12x128x128x8, .f32⟩
  | 112 => ⟨S16x12x128x128x8, .f32⟩
  | 113 => ⟨S16x12x128x128x8, .f32⟩
  | 114 => ⟨S16x12x128x128x8, .f32⟩
  | 115 => ⟨S16x12x128x128x8, .f32⟩
  | 116 => ⟨S16x12x128x128x1, .f32⟩
  | 117 => ⟨S_, .f32⟩
  | 118 => ⟨S16x12x128x128, .f32⟩
  | 119 => ⟨S16x12x128x128x1, .f32⟩
  | 120 => ⟨S16x12x128x128x2, .f32⟩
  | 121 => ⟨S_, .f32⟩
  | 122 => ⟨S16x12x128x128, .f32⟩
  | 123 => ⟨S16x12x128x128x1, .f32⟩
  | 124 => ⟨S16x12x128x128x3, .f32⟩
  | 125 => ⟨S_, .f32⟩
  | 126 => ⟨S16x12x128x128, .f32⟩
  | 127 => ⟨S16x12x128x128x1, .f32⟩
  | _ => ⟨S16x12x128x128, .f32⟩

abbrev hbmTy0_2 (i : Nat) : BufTy := match i % 128 with
  | 0 => ⟨S16x12x128x128x4, .f32⟩
  | 1 => ⟨S_, .f32⟩
  | 2 => ⟨S16x12x128x128, .f32⟩
  | 3 => ⟨S16x12x128x128x1, .f32⟩
  | 4 => ⟨S16x12x128x128x5, .f32⟩
  | 5 => ⟨S_, .f32⟩
  | 6 => ⟨S16x12x128x128, .f32⟩
  | 7 => ⟨S16x12x128x128x1, .f32⟩
  | 8 => ⟨S16x12x128x128x6, .f32⟩
  | 9 => ⟨S_, .f32⟩
  | 10 => ⟨S16x12x128x128, .f32⟩
  | 11 => ⟨S16x12x128x128x1, .f32⟩
  | 12 => ⟨S16x12x128x128x7, .f32⟩
  | 13 => ⟨S_, .f32⟩
  | 14 => ⟨S16x12x128x128, .f32⟩
  | 15 => ⟨S16x12x128x128x1, .f32⟩
  | 16 => ⟨S16x12x128x128x7, .f32⟩
  | 17 => ⟨S_, .f32⟩
  | 18 => ⟨S16x12x128x128x7, .f32⟩
  | 19 => ⟨S16x12x128x128x7, .f32⟩
  | 20 => ⟨S_, .f32⟩
  | 21 => ⟨S16x12x128x128x7, .f32⟩
  | 22 => ⟨S16x12x128x128x7, .f32⟩
  | 23 => ⟨S_, .f32⟩
  | 24 => ⟨S16x12x128x128x1, .f32⟩
  | 25 => ⟨S_, .f32⟩
  | 26 => ⟨S16x12x128x128x1, .f32⟩
  | 27 => ⟨S16x12x128x128x9, .f32⟩
  | 28 => ⟨S16x12x128x128x8, .f32⟩
  | 29 => ⟨S16x12x128x128x8, .f32⟩
  | 30 => ⟨S16x12x128x128x8, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S16x12x128x128, .f32⟩
  | 43 => ⟨S_, .f32⟩
  | 44 => ⟨S16x12x128x128, .f32⟩
  | 45 => ⟨S16x12x128x128, .f32⟩
  | 46 => ⟨S16x12x128x128x1, .f32⟩
  | 47 => ⟨S16x12x128x128x8, .f32⟩
  | 48 => ⟨S16x12x128x128x8, .f32⟩
  | 49 => ⟨S16x12x128x128x8, .f32⟩
  | 50 => ⟨S_, .f32⟩
  | 51 => ⟨S16x12x128x128, .f32⟩
  | 52 => ⟨S16x12x128x128x1, .f32⟩
  | 53 => ⟨S16x12x128x128x8, .f32⟩
  | 54 => ⟨S16x12x128x128x8, .f32⟩
  | 55 => ⟨S16x12x128x128x8, .f32⟩
  | 56 => ⟨S16x12x128x128x8, .f32⟩
  | 57 => ⟨S16x12x128x128x8, .f32⟩
  | 58 => ⟨S16x12x128x128x8, .f32⟩
  | 59 => ⟨S16x12x128x128x1, .f32⟩
  | 60 => ⟨S_, .f32⟩
  | 61 => ⟨S16x12x128x128, .f32⟩
  | 62 => ⟨S16x12x128x128x1, .f32⟩
  | 63 => ⟨S16x12x128x128x2, .f32⟩
  | 64 => ⟨S_, .f32⟩
  | 65 => ⟨S16x12x128x128, .f32⟩
  | 66 => ⟨S16x12x128x128x1, .f32⟩
  | 67 => ⟨S16x12x128x128x3, .f32⟩
  | 68 => ⟨S_, .f32⟩
  | 69 => ⟨S16x12x128x128, .f32⟩
  | 70 => ⟨S16x12x128x128x1, .f32⟩
  | 71 => ⟨S16x12x128x128x4, .f32⟩
  | 72 => ⟨S_, .f32⟩
  | 73 => ⟨S16x12x128x128, .f32⟩
  | 74 => ⟨S16x12x128x128x1, .f32⟩
  | 75 => ⟨S16x12x128x128x5, .f32⟩
  | 76 => ⟨S_, .f32⟩
  | 77 => ⟨S16x12x128x128, .f32⟩
  | 78 => ⟨S16x12x128x128x1, .f32⟩
  | 79 => ⟨S16x12x128x128x6, .f32⟩
  | 80 => ⟨S_, .f32⟩
  | 81 => ⟨S16x12x128x128, .f32⟩
  | 82 => ⟨S16x12x128x128x1, .f32⟩
  | 83 => ⟨S16x12x128x128x7, .f32⟩
  | 84 => ⟨S_, .f32⟩
  | 85 => ⟨S16x12x128x128, .f32⟩
  | 86 => ⟨S16x12x128x128x1, .f32⟩
  | 87 => ⟨S16x12x128x128x7, .f32⟩
  | 88 => ⟨S_, .f32⟩
  | 89 => ⟨S16x12x128x128x7, .f32⟩
  | 90 => ⟨S16x12x128x128x7, .f32⟩
  | 91 => ⟨S_, .f32⟩
  | 92 => ⟨S16x12x128x128x7, .f32⟩
  | 93 => ⟨S16x12x128x128x7, .f32⟩
  | 94 => ⟨S_, .f32⟩
  | 95 => ⟨S16x12x128x128x1, .f32⟩
  | 96 => ⟨S_, .f32⟩
  | 97 => ⟨S16x12x128x128x1, .f32⟩
  | 98 => ⟨S16x12x128x128x9, .f32⟩
  | 99 => ⟨S16x12x128x128x8, .f32⟩
  | 100 => ⟨S16x12x128x128x8, .f32⟩
  | 101 => ⟨S16x12x128x128x8, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S16x12x128x128x1, .f32⟩
  | 110 => ⟨S16x12x128x128x9, .f32⟩
  | 111 => ⟨S_, .f32⟩
  | 112 => ⟨S_, .f32⟩
  | 113 => ⟨S_, .f32⟩
  | 114 => ⟨S_, .f32⟩
  | 115 => ⟨S16x12x128x128x9, .f32⟩
  | 116 => ⟨S16x12x128x128x9, .f32⟩
  | 117 => ⟨S16x12x128x128x9, .f32⟩
  | 118 => ⟨S16x12x128x128x9, .f32⟩
  | 119 => ⟨S16x12x128x128x9, .i1⟩
  | 120 => ⟨S16x12x128x128x9, .f32⟩
  | 121 => ⟨S16x12x128x128x9, .f32⟩
  | 122 => ⟨S16x12x128x128x9, .f32⟩
  | 123 => ⟨S16x12x128x128x9, .f32⟩
  | 124 => ⟨S16x12x128x128x9, .f32⟩
  | 125 => ⟨S16x12x128x128x9, .f32⟩
  | 126 => ⟨S16x12x128x128x9, .f32⟩
  | 127 => ⟨S16x12x128x128x9, .f32⟩
  | _ => ⟨S16x12x128x128, .f32⟩

abbrev hbmTy0_3 (i : Nat) : BufTy := match i % 128 with
  | 0 => ⟨S16x12x128x128x9, .f32⟩
  | 1 => ⟨S16x12x128x128x9, .f32⟩
  | 2 => ⟨S16x12x128x128x8, .f32⟩
  | 3 => ⟨S16x12x128x128x1, .f32⟩
  | 4 => ⟨S16x12x128x128, .f32⟩
  | 5 => ⟨S16x12x128x128, .i1⟩
  | 6 => ⟨S16x12x128x128, .i32⟩
  | 7 => ⟨S_, .i32⟩
  | 8 => ⟨S16x12x128x128, .i32⟩
  | 9 => ⟨S16x12x128x128, .i32⟩
  | 10 => ⟨S16x12x128x128x1, .f32⟩
  | 11 => ⟨S16x12x128x128, .f32⟩
  | 12 => ⟨S16x12x128x128, .i1⟩
  | 13 => ⟨S16x12x128x128, .i32⟩
  | 14 => ⟨S16x12x128x128, .i32⟩
  | 15 => ⟨S16x12x128x128x1, .f32⟩
  | 16 => ⟨S16x12x128x128, .f32⟩
  | 17 => ⟨S16x12x128x128, .i1⟩
  | 18 => ⟨S16x12x128x128, .i32⟩
  | 19 => ⟨S16x12x128x128, .i32⟩
  | 20 => ⟨S16x12x128x128x1, .f32⟩
  | 21 => ⟨S16x12x128x128, .f32⟩
  | 22 => ⟨S16x12x128x128, .i1⟩
  | 23 => ⟨S16x12x128x128, .i32⟩
  | 24 => ⟨S16x12x128x128, .i32⟩
  | 25 => ⟨S16x12x128x128x1, .f32⟩
  | 26 => ⟨S16x12x128x128, .f32⟩
  | 27 => ⟨S16x12x128x128, .i1⟩
  | 28 => ⟨S16x12x128x128, .i32⟩
  | 29 => ⟨S16x12x128x128, .i32⟩
  | 30 => ⟨S16x12x128x128x1, .f32⟩
  | 31 => ⟨S16x12x128x128, .f32⟩
  | 32 => ⟨S16x12x128x128, .i1⟩
  | 33 => ⟨S16x12x128x128, .i32⟩
  | 34 => ⟨S16x12x128x128, .i32⟩
  | 35 => ⟨S16x12x128x128x1, .f32⟩
  | 36 => ⟨S16x12x128x128, .f32⟩
  | 37 => ⟨S16x12x128x128, .i1⟩
  | 38 => ⟨S16x12x128x128, .i32⟩
  | 39 => ⟨S16x12x128x128, .i32⟩
  | 40 => ⟨S16x12x128x128x1, .f32⟩
  | 41 => ⟨S16x12x128x128, .f32⟩
  | 42 => ⟨S16x12x128x128, .i1⟩
  | 43 => ⟨S16x12x128x128, .i32⟩
  | 44 => ⟨S16x12x128x128, .i32⟩
  | 45 => ⟨S16x12x128x128x1, .f32⟩
  | 46 => ⟨S16x12x128x128, .f32⟩
  | 47 => ⟨S16x12x128x128, .i1⟩
  | 48 => ⟨S16x12x128x128, .i32⟩
  | 49 => ⟨S16x12x128x128, .i32⟩
  | 50 => ⟨S_, .i32⟩
  | 51 => ⟨S16x12x128x128, .i32⟩
  | 52 => ⟨S16x12x128x128, .i32⟩
  | 53 => ⟨S_, .i32⟩
  | 54 => ⟨S_, .i32⟩
  | 55 => ⟨S_, .i32⟩
  | 56 => ⟨S16x12x128x128, .i32⟩
  | 57 => ⟨S16x12x128x128, .i32⟩
  | 58 => ⟨S_, .i32⟩
  | 59 => ⟨S16x12x128x128, .i32⟩
  | 60 => ⟨S16x12x128x128, .i32⟩
  | 61 => ⟨S16x12x128x128x1, .f32⟩
  | 62 => ⟨S16x12x128x128, .f32⟩
  | 63 => ⟨S16x12x128x128x1, .f32⟩
  | 64 => ⟨S16x12x128x128, .f32⟩
  | 65 => ⟨S16x12x128x128x1, .f32⟩
  | 66 => ⟨S16x12x128x128, .f32⟩
  | 67 => ⟨S16x12x128x128x1, .f32⟩
  | 68 => ⟨S16x12x128x128, .f32⟩
  | 69 => ⟨S16x12x128x128x1, .f32⟩
  | 70 => ⟨S16x12x128x128, .f32⟩
  | 71 => ⟨S16x12x128x128x1, .f32⟩
  | 72 => ⟨S16x12x128x128, .f32⟩
  | 73 => ⟨S16x12x128x128x1, .f32⟩
  | 74 => ⟨S16x12x128x128, .f32⟩
  | 75 => ⟨S16x12x128x128x1, .f32⟩
  | 76 => ⟨S16x12x128x128, .f32⟩
  | 77 => ⟨S_, .i32⟩
  | 78 => ⟨S16x12x128x128, .i32⟩
  | 79 => ⟨S16x12x128x128, .i1⟩
  | 80 => ⟨S_, .i32⟩
  | 81 => ⟨S16x12x128x128, .i32⟩
  | 82 => ⟨S16x12x128x128, .i1⟩
  | 83 => ⟨S_, .i32⟩
  | 84 => ⟨S16x12x128x128, .i32⟩
  | 85 => ⟨S16x12x128x128, .i1⟩
  | 86 => ⟨S16x12x128x128, .f32⟩
  | 87 => ⟨S_, .i32⟩
  | 88 => ⟨S16x12x128x128, .i32⟩
  | 89 => ⟨S16x12x128x128, .i1⟩
  | 90 => ⟨S16x12x128x128, .f32⟩
  | 91 => ⟨S16x12x128x128, .f32⟩
  | 92 => ⟨S_, .i32⟩
  | 93 => ⟨S16x12x128x128, .i32⟩
  | 94 => ⟨S16x12x128x128, .i1⟩
  | 95 => ⟨S_, .i32⟩
  | 96 => ⟨S16x12x128x128, .i32⟩
  | 97 => ⟨S16x12x128x128, .i1⟩
  | 98 => ⟨S16x12x128x128, .f32⟩
  | 99 => ⟨S_, .i32⟩
  | 100 => ⟨S16x12x128x128, .i32⟩
  | 101 => ⟨S16x12x128x128, .i1⟩
  | 102 => ⟨S16x12x128x128, .f32⟩
  | 103 => ⟨S16x12x128x128, .f32⟩
  | 104 => ⟨S16x12x128x128, .f32⟩
  | 105 => ⟨S16x12x128x128x1, .f32⟩
  | 106 => ⟨S16x12x128x128, .f32⟩
  | 107 => ⟨S16x12x128x128x1, .f32⟩
  | 108 => ⟨S16x12x128x128, .f32⟩
  | 109 => ⟨S16x12x128x128x1, .f32⟩
  | 110 => ⟨S16x12x128x128, .f32⟩
  | 111 => ⟨S16x12x128x128x1, .f32⟩
  | 112 => ⟨S16x12x128x128, .f32⟩
  | 113 => ⟨S16x12x128x128x1, .f32⟩
  | 114 => ⟨S16x12x128x128, .f32⟩
  | 115 => ⟨S16x12x128x128x1, .f32⟩
  | 116 => ⟨S16x12x128x128, .f32⟩
  | 117 => ⟨S16x12x128x128x1, .f32⟩
  | 118 => ⟨S16x12x128x128, .f32⟩
  | 119 => ⟨S16x12x128x128x1, .f32⟩
  | 120 => ⟨S16x12x128x128, .f32⟩
  | 121 => ⟨S_, .i32⟩
  | 122 => ⟨S16x12x128x128, .i32⟩
  | 123 => ⟨S16x12x128x128, .i1⟩
  | 124 => ⟨S_, .i32⟩
  | 125 => ⟨S16x12x128x128, .i32⟩
  | 126 => ⟨S16x12x128x128, .i1⟩
  | 127 => ⟨S_, .i32⟩
  | _ => ⟨S16x12x128x128, .f32⟩

abbrev hbmTy0_4 (i : Nat) : BufTy := match i % 128 with
  | 0 => ⟨S16x12x128x128, .i32⟩
  | 1 => ⟨S16x12x128x128, .i1⟩
  | 2 => ⟨S16x12x128x128, .f32⟩
  | 3 => ⟨S_, .i32⟩
  | 4 => ⟨S16x12x128x128, .i32⟩
  | 5 => ⟨S16x12x128x128, .i1⟩
  | 6 => ⟨S16x12x128x128, .f32⟩
  | 7 => ⟨S16x12x128x128, .f32⟩
  | 8 => ⟨S_, .i32⟩
  | 9 => ⟨S16x12x128x128, .i32⟩
  | 10 => ⟨S16x12x128x128, .i1⟩
  | 11 => ⟨S_, .i32⟩
  | 12 => ⟨S16x12x128x128, .i32⟩
  | 13 => ⟨S16x12x128x128, .i1⟩
  | 14 => ⟨S16x12x128x128, .f32⟩
  | 15 => ⟨S_, .i32⟩
  | 16 => ⟨S16x12x128x128, .i32⟩
  | 17 => ⟨S16x12x128x128, .i1⟩
  | 18 => ⟨S16x12x128x128, .f32⟩
  | 19 => ⟨S16x12x128x128, .f32⟩
  | 20 => ⟨S16x12x128x128, .f32⟩
  | 21 => ⟨S16x12x128x128x1, .f32⟩
  | 22 => ⟨S16x12x128x128, .f32⟩
  | 23 => ⟨S16x12x128x128x1, .f32⟩
  | 24 => ⟨S16x12x128x128, .f32⟩
  | 25 => ⟨S16x12x128x128x1, .f32⟩
  | 26 => ⟨S16x12x128x128, .f32⟩
  | 27 => ⟨S16x12x128x128x1, .f32⟩
  | 28 => ⟨S16x12x128x128, .f32⟩
  | 29 => ⟨S16x12x128x128x1, .f32⟩
  | 30 => ⟨S16x12x128x128, .f32⟩
  | 31 => ⟨S16x12x128x128x1, .f32⟩
  | 32 => ⟨S16x12x128x128, .f32⟩
  | 33 => ⟨S16x12x128x128x1, .f32⟩
  | 34 => ⟨S16x12x128x128, .f32⟩
  | 35 => ⟨S16x12x128x128x1, .f32⟩
  | 36 => ⟨S16x12x128x128, .f32⟩
  | 37 => ⟨S_, .i32⟩
  | 38 => ⟨S16x12x128x128, .i32⟩
  | 39 => ⟨S16x12x128x128, .i1⟩
  | 40 => ⟨S_, .i32⟩
  | 41 => ⟨S16x12x128x128, .i32⟩
  | 42 => ⟨S16x12x128x128, .i1⟩
  | 43 => ⟨S_, .i32⟩
  | 44 => ⟨S16x12x128x128, .i32⟩
  | 45 => ⟨S16x12x128x128, .i1⟩
  | 46 => ⟨S16x12x128x128, .f32⟩
  | 47 => ⟨S_, .i32⟩
  | 48 => ⟨S16x12x128x128, .i32⟩
  | 49 => ⟨S16x12x128x128, .i1⟩
  | 50 => ⟨S16x12x128x128, .f32⟩
  | 51 => ⟨S16x12x128x128, .f32⟩
  | 52 => ⟨S_, .i32⟩
  | 53 => ⟨S16x12x128x128, .i32⟩
  | 54 => ⟨S16x12x128x128, .i1⟩
  | 55 => ⟨S_, .i32⟩
  | 56 => ⟨S16x12x128x128, .i32⟩
  | 57 => ⟨S16x12x128x128, .i1⟩
  | 58 => ⟨S16x12x128x128, .f32⟩
  | 59 => ⟨S_, .i32⟩
  | 60 => ⟨S16x12x128x128, .i32⟩
  | 61 => ⟨S16x12x128x128, .i1⟩
  | 62 => ⟨S16x12x128x128, .f32⟩
  | 63 => ⟨S16x12x128x128, .f32⟩
  | 64 => ⟨S16x12x128x128, .f32⟩
  | 65 => ⟨S16x12x128x128x1, .f32⟩
  | 66 => ⟨S16x12x128x128, .f32⟩
  | 67 => ⟨S16x12x128x128x1, .f32⟩
  | 68 => ⟨S16x12x128x128, .f32⟩
  | 69 => ⟨S16x12x128x128x1, .f32⟩
  | 70 => ⟨S16x12x128x128, .f32⟩
  | 71 => ⟨S16x12x128x128x1, .f32⟩
  | 72 => ⟨S16x12x128x128, .f32⟩
  | 73 => ⟨S16x12x128x128x1, .f32⟩
  | 74 => ⟨S16x12x128x128, .f32⟩
  | 75 => ⟨S16x12x128x128x1, .f32⟩
  | 76 => ⟨S16x12x128x128, .f32⟩
  | 77 => ⟨S16x12x128x128x1, .f32⟩
  | 78 => ⟨S16x12x128x128, .f32⟩
  | 79 => ⟨S16x12x128x128x1, .f32⟩
  | 80 => ⟨S16x12x128x128, .f32⟩
  | 81 => ⟨S_, .i32⟩
  | 82 => ⟨S16x12x128x128, .i32⟩
  | 83 => ⟨S16x12x128x128, .i1⟩
  | 84 => ⟨S_, .i32⟩
  | 85 => ⟨S16x12x128x128, .i32⟩
  | 86 => ⟨S16x12x128x128, .i1⟩
  | 87 => ⟨S_, .i32⟩
  | 88 => ⟨S16x12x128x128, .i32⟩
  | 89 => ⟨S16x12x128x128, .i1⟩
  | 90 => ⟨S16x12x128x128, .f32⟩
  | 91 => ⟨S_, .i32⟩
  | 92 => ⟨S16x12x128x128, .i32⟩
  | 93 => ⟨S16x12x128x128, .i1⟩
  | 94 => ⟨S16x12x128x128, .f32⟩
  | 95 => ⟨S16x12x128x128, .f32⟩
  | 96 => ⟨S_, .i32⟩
  | 97 => ⟨S16x12x128x128, .i32⟩
  | 98 => ⟨S16x12x128x128, .i1⟩
  | 99 => ⟨S_, .i32⟩
  | 100 => ⟨S16x12x128x128, .i32⟩
  | 101 => ⟨S16x12x128x128, .i1⟩
  | 102 => ⟨S16x12x128x128, .f32⟩
  | 103 => ⟨S_, .i32⟩
  | 104 => ⟨S16x12x128x128, .i32⟩
  | 105 => ⟨S16x12x128x128, .i1⟩
  | 106 => ⟨S16x12x128x128, .f32⟩
  | 107 => ⟨S16x12x128x128, .f32⟩
  | 108 => ⟨S16x12x128x128, .f32⟩
  | 109 => ⟨S16x12x128x128x1, .f32⟩
  | 110 => ⟨S16x12x128x128, .f32⟩
  | 111 => ⟨S16x12x128x128x1, .f32⟩
  | 112 => ⟨S16x12x128x128, .f32⟩
  | 113 => ⟨S16x12x128x128x1, .f32⟩
  | 114 => ⟨S16x12x128x128, .f32⟩
  | 115 => ⟨S16x12x128x128x1, .f32⟩
  | 116 => ⟨S16x12x128x128, .f32⟩
  | 117 => ⟨S16x12x128x128x1, .f32⟩
  | 118 => ⟨S16x12x128x128, .f32⟩
  | 119 => ⟨S16x12x128x128x1, .f32⟩
  | 120 => ⟨S16x12x128x128, .f32⟩
  | 121 => ⟨S16x12x128x128x1, .f32⟩
  | 122 => ⟨S16x12x128x128, .f32⟩
  | 123 => ⟨S16x12x128x128x1, .f32⟩
  | 124 => ⟨S16x12x128x128, .f32⟩
  | 125 => ⟨S_, .i32⟩
  | 126 => ⟨S16x12x128x128, .i32⟩
  | 127 => ⟨S16x12x128x128, .i1⟩
  | _ => ⟨S16x12x128x128, .f32⟩

abbrev hbmTy0_5 (i : Nat) : BufTy := match i % 128 with
  | 0 => ⟨S_, .i32⟩
  | 1 => ⟨S16x12x128x128, .i32⟩
  | 2 => ⟨S16x12x128x128, .i1⟩
  | 3 => ⟨S_, .i32⟩
  | 4 => ⟨S16x12x128x128, .i32⟩
  | 5 => ⟨S16x12x128x128, .i1⟩
  | 6 => ⟨S16x12x128x128, .f32⟩
  | 7 => ⟨S_, .i32⟩
  | 8 => ⟨S16x12x128x128, .i32⟩
  | 9 => ⟨S16x12x128x128, .i1⟩
  | 10 => ⟨S16x12x128x128, .f32⟩
  | 11 => ⟨S16x12x128x128, .f32⟩
  | 12 => ⟨S_, .i32⟩
  | 13 => ⟨S16x12x128x128, .i32⟩
  | 14 => ⟨S16x12x128x128, .i1⟩
  | 15 => ⟨S_, .i32⟩
  | 16 => ⟨S16x12x128x128, .i32⟩
  | 17 => ⟨S16x12x128x128, .i1⟩
  | 18 => ⟨S16x12x128x128, .f32⟩
  | 19 => ⟨S_, .i32⟩
  | 20 => ⟨S16x12x128x128, .i32⟩
  | 21 => ⟨S16x12x128x128, .i1⟩
  | 22 => ⟨S16x12x128x128, .f32⟩
  | 23 => ⟨S16x12x128x128, .f32⟩
  | 24 => ⟨S16x12x128x128, .f32⟩
  | 25 => ⟨S16x12x128x128x1, .f32⟩
  | 26 => ⟨S16x12x128x128, .f32⟩
  | 27 => ⟨S16x12x128x128x1, .f32⟩
  | 28 => ⟨S16x12x128x128, .f32⟩
  | 29 => ⟨S16x12x128x128x1, .f32⟩
  | 30 => ⟨S16x12x128x128, .f32⟩
  | 31 => ⟨S16x12x128x128x1, .f32⟩
  | 32 => ⟨S16x12x128x128, .f32⟩
  | 33 => ⟨S16x12x128x128x1, .f32⟩
  | 34 => ⟨S16x12x128x128, .f32⟩
  | 35 => ⟨S16x12x128x128x1, .f32⟩
  | 36 => ⟨S16x12x128x128, .f32⟩
  | 37 => ⟨S16x12x128x128x1, .f32⟩
  | 38 => ⟨S16x12x128x128, .f32⟩
  | 39 => ⟨S16x12x128x128x1, .f32⟩
  | 40 => ⟨S16x12x128x128, .f32⟩
  | 41 => ⟨S_, .i32⟩
  | 42 => ⟨S16x12x128x128, .i32⟩
  | 43 => ⟨S16x12x128x128, .i1⟩
  | 44 => ⟨S_, .i32⟩
  | 45 => ⟨S16x12x128x128, .i32⟩
  | 46 => ⟨S16x12x128x128, .i1⟩
  | 47 => ⟨S_, .i32⟩
  | 48 => ⟨S16x12x128x128, .i32⟩
  | 49 => ⟨S16x12x128x128, .i1⟩
  | 50 => ⟨S16x12x128x128, .f32⟩
  | 51 => ⟨S_, .i32⟩
  | 52 => ⟨S16x12x128x128, .i32⟩
  | 53 => ⟨S16x12x128x128, .i1⟩
  | 54 => ⟨S16x12x128x128, .f32⟩
  | 55 => ⟨S16x12x128x128, .f32⟩
  | 56 => ⟨S_, .i32⟩
  | 57 => ⟨S16x12x128x128, .i32⟩
  | 58 => ⟨S16x12x128x128, .i1⟩
  | 59 => ⟨S_, .i32⟩
  | 60 => ⟨S16x12x128x128, .i32⟩
  | 61 => ⟨S16x12x128x128, .i1⟩
  | 62 => ⟨S16x12x128x128, .f32⟩
  | 63 => ⟨S_, .i32⟩
  | 64 => ⟨S16x12x128x128, .i32⟩
  | 65 => ⟨S16x12x128x128, .i1⟩
  | 66 => ⟨S16x12x128x128, .f32⟩
  | 67 => ⟨S16x12x128x128, .f32⟩
  | 68 => ⟨S16x12x128x128, .f32⟩
  | 69 => ⟨S16x12x128x128x8, .f32⟩
  | 70 => ⟨S16x12x128x128x1, .f32⟩
  | 71 => ⟨S16x12x128x128, .f32⟩
  | 72 => ⟨S16x12x128x128x1, .f32⟩
  | 73 => ⟨S16x12x128x128, .f32⟩
  | 74 => ⟨S16x12x128x128x1, .f32⟩
  | 75 => ⟨S16x12x128x128, .f32⟩
  | 76 => ⟨S16x12x128x128x1, .f32⟩
  | 77 => ⟨S16x12x128x128, .f32⟩
  | 78 => ⟨S16x12x128x128x1, .f32⟩
  | 79 => ⟨S16x12x128x128, .f32⟩
  | 80 => ⟨S16x12x128x128x1, .f32⟩
  | 81 => ⟨S16x12x128x128, .f32⟩
  | 82 => ⟨S16x12x128x128x1, .f32⟩
  | 83 => ⟨S16x12x128x128, .f32⟩
  | 84 => ⟨S16x12x128x128x1, .f32⟩
  | 85 => ⟨S16x12x128x128, .f32⟩
  | 86 => ⟨S_, .i32⟩
  | 87 => ⟨S16x12x128x128, .i32⟩
  | 88 => ⟨S16x12x128x128, .i1⟩
  | 89 => ⟨S_, .i32⟩
  | 90 => ⟨S16x12x128x128, .i32⟩
  | 91 => ⟨S16x12x128x128, .i1⟩
  | 92 => ⟨S_, .i32⟩
  | 93 => ⟨S16x12x128x128, .i32⟩
  | 94 => ⟨S16x12x128x128, .i1⟩
  | 95 => ⟨S16x12x128x128, .f32⟩
  | 96 => ⟨S_, .i32⟩
  | 97 => ⟨S16x12x128x128, .i32⟩
  | 98 => ⟨S16x12x128x128, .i1⟩
  | 99 => ⟨S16x12x128x128, .f32⟩
  | 100 => ⟨S16x12x128x128, .f32⟩
  | 101 => ⟨S_, .i32⟩
  | 102 => ⟨S16x12x128x128, .i32⟩
  | 103 => ⟨S16x12x128x128, .i1⟩
  | 104 => ⟨S_, .i32⟩
  | 105 => ⟨S16x12x128x128, .i32⟩
  | 106 => ⟨S16x12x128x128, .i1⟩
  | 107 => ⟨S16x12x128x128, .f32⟩
  | 108 => ⟨S_, .i32⟩
  | 109 => ⟨S16x12x128x128, .i32⟩
  | 110 => ⟨S16x12x128x128, .i1⟩
  | 111 => ⟨S16x12x128x128, .f32⟩
  | 112 => ⟨S16x12x128x128, .f32⟩
  | 113 => ⟨S16x12x128x128, .f32⟩
  | 114 => ⟨S16x12x128x128, .f32⟩
  | 115 => ⟨S16x12x128x128, .f32⟩
  | 116 => ⟨S_, .f32⟩
  | 117 => ⟨S16x12x128x128, .f32⟩
  | 118 => ⟨S16x12x128x128, .f32⟩
  | 119 => ⟨S16x12x128x128, .f32⟩
  | 120 => ⟨S16x12x128x128, .f32⟩
  | 121 => ⟨S16x12x128x128, .f32⟩
  | 122 => ⟨S16x12x128x128, .f32⟩
  | 123 => ⟨S16x12x128x128, .f32⟩
  | 124 => ⟨S16x12x128x128, .f32⟩
  | 125 => ⟨S16x12x128x128, .f32⟩
  | 126 => ⟨S_, .f32⟩
  | 127 => ⟨S16x12x128x128, .f32⟩
  | _ => ⟨S16x12x128x128, .f32⟩

abbrev hbmTy0_6 (i : Nat) : BufTy := match i % 128 with
  | 0 => ⟨S16x12x128x128, .f32⟩
  | 1 => ⟨S16x12x128x128, .f32⟩
  | 2 => ⟨S16x12x128x128, .f32⟩
  | 3 => ⟨S16x12x128x128, .f32⟩
  | 4 => ⟨S16x12x128x128, .f32⟩
  | 5 => ⟨S16x12x128x128, .f32⟩
  | 6 => ⟨S16x12x128x128, .f32⟩
  | 7 => ⟨S16x12x128x128, .f32⟩
  | 8 => ⟨S16x12x128x128, .f32⟩
  | 9 => ⟨S_, .f32⟩
  | 10 => ⟨S16x12x128x128, .f32⟩
  | 11 => ⟨S16x12x128x128, .f32⟩
  | 12 => ⟨S16x12x128x128, .f32⟩
  | 13 => ⟨S16x12x128x128, .f32⟩
  | 14 => ⟨S_, .f32⟩
  | 15 => ⟨S16x12x128x128, .f32⟩
  | 16 => ⟨S16x12x128x128, .f32⟩
  | 17 => ⟨S16x12x128x128, .f32⟩
  | 18 => ⟨S16x12x128x128, .f32⟩
  | 19 => ⟨S16x12x128x128, .f32⟩
  | 20 => ⟨S16x12x128x128, .f32⟩
  | 21 => ⟨S16x12x128x128, .f32⟩
  | 22 => ⟨S16x12x128x128, .f32⟩
  | 23 => ⟨S_, .f32⟩
  | 24 => ⟨S16x12x128x128, .f32⟩
  | 25 => ⟨S16x12x128x128, .f32⟩
  | 26 => ⟨S16x12x128x128, .f32⟩
  | 27 => ⟨S16x12x128x128, .f32⟩
  | 28 => ⟨S_, .f32⟩
  | 29 => ⟨S_, .f32⟩
  | 30 => ⟨S16x12x128x128, .f32⟩
  | 31 => ⟨S16x12x128x128, .f32⟩
  | 32 => ⟨S16x12x128x128, .f32⟩
  | 33 => ⟨S_, .f32⟩
  | 34 => ⟨S16, .f32⟩
  | 35 => ⟨S16, .f32⟩
  | _ => ⟨S16x12x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x12x128x128, .f32⟩

abbrev bufTy : (tb : Table) → Fin (tcTables nBuf tb) → BufTy
  | .hbm, ⟨i, _⟩ => hbmTy i
  | _, _ => ⟨S16x12x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_c_1 : Ref sig .tc := ⟨.hbm, 39, rfl⟩
abbrev main_c_2 : Ref sig .tc := ⟨.hbm, 40, rfl⟩
abbrev main_call1_v0 : Ref sig .tc := ⟨.hbm, 41, rfl⟩
abbrev main_call1_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_call2_v0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_4 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call3_cst : Ref sig .tc := ⟨.hbm, 116, rfl⟩
abbrev main_call3_v0 : Ref sig .tc := ⟨.hbm, 117, rfl⟩
abbrev main_v77 : Ref sig .tc := ⟨.hbm, 118, rfl⟩
abbrev main_c_5 : Ref sig .tc := ⟨.hbm, 119, rfl⟩
abbrev main_call4_v0 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_6 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_call5_cst : Ref sig .tc := ⟨.hbm, 131, rfl⟩
abbrev main_call5_v0 : Ref sig .tc := ⟨.hbm, 132, rfl⟩
abbrev main_v87 : Ref sig .tc := ⟨.hbm, 133, rfl⟩
abbrev main_c_7 : Ref sig .tc := ⟨.hbm, 134, rfl⟩
abbrev main_call6_v0 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_8 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_9 : Ref sig .tc := ⟨.hbm, 201, rfl⟩
abbrev main_v152 : Ref sig .tc := ⟨.hbm, 202, rfl⟩
abbrev main_v153 : Ref sig .tc := ⟨.hbm, 203, rfl⟩
abbrev main_cst_10 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_11 : Ref sig .tc := ⟨.hbm, 208, rfl⟩
abbrev main_cst_12 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_v157 : Ref sig .tc := ⟨.hbm, 215, rfl⟩
abbrev main_cst_13 : Ref sig .tc := ⟨.hbm, 216, rfl⟩
abbrev main_cst_14 : Ref sig .tc := ⟨.hbm, 217, rfl⟩
abbrev main_v158 : Ref sig .tc := ⟨.hbm, 218, rfl⟩
abbrev main_cst_15 : Ref sig .tc := ⟨.hbm, 219, rfl⟩
abbrev main_cst_16 : Ref sig .tc := ⟨.hbm, 220, rfl⟩
abbrev main_v159 : Ref sig .tc := ⟨.hbm, 221, rfl⟩
abbrev main_cst_17 : Ref sig .tc := ⟨.hbm, 222, rfl⟩
abbrev main_v160 : Ref sig .tc := ⟨.hbm, 223, rfl⟩
abbrev main_cst_18 : Ref sig .tc := ⟨.hbm, 224, rfl⟩
abbrev main_v161 : Ref sig .tc := ⟨.hbm, 225, rfl⟩
abbrev main_cst_19 : Ref sig .tc := ⟨.hbm, 226, rfl⟩
abbrev main_v162 : Ref sig .tc := ⟨.hbm, 227, rfl⟩
abbrev main_cst_20 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_21 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_22 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_23 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_24 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_25 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_26 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_27 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_28 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_cst_29 : Ref sig .tc := ⟨.hbm, 273, rfl⟩
abbrev main_v199 : Ref sig .tc := ⟨.hbm, 274, rfl⟩
abbrev main_v200 : Ref sig .tc := ⟨.hbm, 275, rfl⟩
abbrev main_cst_30 : Ref sig .tc := ⟨.hbm, 276, rfl⟩
abbrev main_v201 : Ref sig .tc := ⟨.hbm, 277, rfl⟩
abbrev main_v202 : Ref sig .tc := ⟨.hbm, 278, rfl⟩
abbrev main_cst_31 : Ref sig .tc := ⟨.hbm, 279, rfl⟩
abbrev main_v203 : Ref sig .tc := ⟨.hbm, 280, rfl⟩
abbrev main_cst_32 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_cst_33 : Ref sig .tc := ⟨.hbm, 287, rfl⟩
abbrev main_cst_34 : Ref sig .tc := ⟨.hbm, 288, rfl⟩
abbrev main_v209 : Ref sig .tc := ⟨.hbm, 289, rfl⟩
abbrev main_cst_35 : Ref sig .tc := ⟨.hbm, 290, rfl⟩
abbrev main_cst_36 : Ref sig .tc := ⟨.hbm, 291, rfl⟩
abbrev main_v210 : Ref sig .tc := ⟨.hbm, 292, rfl⟩
abbrev main_cst_37 : Ref sig .tc := ⟨.hbm, 293, rfl⟩
abbrev main_v211 : Ref sig .tc := ⟨.hbm, 294, rfl⟩
abbrev main_cst_38 : Ref sig .tc := ⟨.hbm, 295, rfl⟩
abbrev main_v212 : Ref sig .tc := ⟨.hbm, 296, rfl⟩
abbrev main_cst_39 : Ref sig .tc := ⟨.hbm, 297, rfl⟩
abbrev main_v213 : Ref sig .tc := ⟨.hbm, 298, rfl⟩
abbrev main_cst_40 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_cst_41 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_cst_42 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_cst_43 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_cst_44 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_cst_45 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_cst_46 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_cst_47 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_cst_48 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_cst_49 : Ref sig .tc := ⟨.hbm, 344, rfl⟩
abbrev main_v250 : Ref sig .tc := ⟨.hbm, 345, rfl⟩
abbrev main_v251 : Ref sig .tc := ⟨.hbm, 346, rfl⟩
abbrev main_cst_50 : Ref sig .tc := ⟨.hbm, 347, rfl⟩
abbrev main_v252 : Ref sig .tc := ⟨.hbm, 348, rfl⟩
abbrev main_v253 : Ref sig .tc := ⟨.hbm, 349, rfl⟩
abbrev main_cst_51 : Ref sig .tc := ⟨.hbm, 350, rfl⟩
abbrev main_v254 : Ref sig .tc := ⟨.hbm, 351, rfl⟩
abbrev main_cst_52 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_cst_53 : Ref sig .tc := ⟨.hbm, 358, rfl⟩
abbrev main_cst_54 : Ref sig .tc := ⟨.hbm, 359, rfl⟩
abbrev main_v260 : Ref sig .tc := ⟨.hbm, 360, rfl⟩
abbrev main_cst_55 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_cst_56 : Ref sig .tc := ⟨.hbm, 367, rfl⟩
abbrev main_cst_57 : Ref sig .tc := ⟨.hbm, 368, rfl⟩
abbrev main_v266 : Ref sig .tc := ⟨.hbm, 369, rfl⟩
abbrev main_call8_cst : Ref sig .tc := ⟨.hbm, 370, rfl⟩
abbrev main_call8_v0 : Ref sig .tc := ⟨.hbm, 371, rfl⟩
abbrev main_call8_v1 : Ref sig .tc := ⟨.hbm, 372, rfl⟩
abbrev main_call8_v2 : Ref sig .tc := ⟨.hbm, 373, rfl⟩
abbrev main_call8_v3 : Ref sig .tc := ⟨.hbm, 374, rfl⟩
abbrev main_call8_v4 : Ref sig .tc := ⟨.hbm, 375, rfl⟩
abbrev main_call8_v5 : Ref sig .tc := ⟨.hbm, 376, rfl⟩
abbrev main_call8_v6 : Ref sig .tc := ⟨.hbm, 377, rfl⟩
abbrev main_call8_v7 : Ref sig .tc := ⟨.hbm, 378, rfl⟩
abbrev main_call8_v8 : Ref sig .tc := ⟨.hbm, 379, rfl⟩
abbrev main_call8_v9 : Ref sig .tc := ⟨.hbm, 380, rfl⟩
abbrev main_call8_v10 : Ref sig .tc := ⟨.hbm, 381, rfl⟩
abbrev main_call8_v11 : Ref sig .tc := ⟨.hbm, 382, rfl⟩
abbrev main_v267 : Ref sig .tc := ⟨.hbm, 383, rfl⟩
abbrev main_v268 : Ref sig .tc := ⟨.hbm, 384, rfl⟩
abbrev main_v269 : Ref sig .tc := ⟨.hbm, 385, rfl⟩
abbrev main_v270 : Ref sig .tc := ⟨.hbm, 386, rfl⟩
abbrev main_v271 : Ref sig .tc := ⟨.hbm, 387, rfl⟩
abbrev main_v272 : Ref sig .tc := ⟨.hbm, 388, rfl⟩
abbrev main_v273 : Ref sig .tc := ⟨.hbm, 389, rfl⟩
abbrev main_v274 : Ref sig .tc := ⟨.hbm, 390, rfl⟩
abbrev main_c_58 : Ref sig .tc := ⟨.hbm, 391, rfl⟩
abbrev main_v275 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_v283 : Ref sig .tc := ⟨.hbm, 400, rfl⟩
abbrev main_v284 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_c_59 : Ref sig .tc := ⟨.hbm, 434, rfl⟩
abbrev main_v317 : Ref sig .tc := ⟨.hbm, 435, rfl⟩
abbrev main_v318 : Ref sig .tc := ⟨.hbm, 436, rfl⟩
abbrev main_c_60 : Ref sig .tc := ⟨.hbm, 437, rfl⟩
abbrev main_c_61 : Ref sig .tc := ⟨.hbm, 438, rfl⟩
abbrev main_call9_v0 : Ref sig .tc := ⟨.hbm, 439, rfl⟩
abbrev main_call9_v1 : Ref sig .tc := ⟨.hbm, 440, rfl⟩
abbrev main_call9_v2 : Ref sig .tc := ⟨.hbm, 441, rfl⟩
abbrev main_call9_v3 : Ref sig .tc := ⟨.hbm, 442, rfl⟩
abbrev main_call9_v4 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_v326 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_v335 : Ref sig .tc := ⟨.hbm, 460, rfl⟩
abbrev main_c_62 : Ref sig .tc := ⟨.hbm, 461, rfl⟩
abbrev main_v336 : Ref sig .tc := ⟨.hbm, 462, rfl⟩
abbrev main_v337 : Ref sig .tc := ⟨.hbm, 463, rfl⟩
abbrev main_c_63 : Ref sig .tc := ⟨.hbm, 464, rfl⟩
abbrev main_v338 : Ref sig .tc := ⟨.hbm, 465, rfl⟩
abbrev main_v339 : Ref sig .tc := ⟨.hbm, 466, rfl⟩
abbrev main_c_64 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_c_65 : Ref sig .tc := ⟨.hbm, 471, rfl⟩
abbrev main_v343 : Ref sig .tc := ⟨.hbm, 472, rfl⟩
abbrev main_v344 : Ref sig .tc := ⟨.hbm, 473, rfl⟩
abbrev main_v345 : Ref sig .tc := ⟨.hbm, 474, rfl⟩
abbrev main_v346 : Ref sig .tc := ⟨.hbm, 475, rfl⟩
abbrev main_c_66 : Ref sig .tc := ⟨.hbm, 476, rfl⟩
abbrev main_v347 : Ref sig .tc := ⟨.hbm, 477, rfl⟩
abbrev main_v348 : Ref sig .tc := ⟨.hbm, 478, rfl⟩
abbrev main_c_67 : Ref sig .tc := ⟨.hbm, 479, rfl⟩
abbrev main_v349 : Ref sig .tc := ⟨.hbm, 480, rfl⟩
abbrev main_v350 : Ref sig .tc := ⟨.hbm, 481, rfl⟩
abbrev main_v351 : Ref sig .tc := ⟨.hbm, 482, rfl⟩
abbrev main_c_68 : Ref sig .tc := ⟨.hbm, 483, rfl⟩
abbrev main_v352 : Ref sig .tc := ⟨.hbm, 484, rfl⟩
abbrev main_v353 : Ref sig .tc := ⟨.hbm, 485, rfl⟩
abbrev main_v354 : Ref sig .tc := ⟨.hbm, 486, rfl⟩
abbrev main_v355 : Ref sig .tc := ⟨.hbm, 487, rfl⟩
abbrev main_v356 : Ref sig .tc := ⟨.hbm, 488, rfl⟩
abbrev main_v357 : Ref sig .tc := ⟨.hbm, 489, rfl⟩
abbrev main_v358 : Ref sig .tc := ⟨.hbm, 490, rfl⟩
abbrev main_v359 : Ref sig .tc := ⟨.hbm, 491, rfl⟩
abbrev main_v360 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_v371 : Ref sig .tc := ⟨.hbm, 503, rfl⟩
abbrev main_v372 : Ref sig .tc := ⟨.hbm, 504, rfl⟩
abbrev main_c_69 : Ref sig .tc := ⟨.hbm, 505, rfl⟩
abbrev main_v373 : Ref sig .tc := ⟨.hbm, 506, rfl⟩
abbrev main_v374 : Ref sig .tc := ⟨.hbm, 507, rfl⟩
abbrev main_c_70 : Ref sig .tc := ⟨.hbm, 508, rfl⟩
abbrev main_v375 : Ref sig .tc := ⟨.hbm, 509, rfl⟩
abbrev main_v376 : Ref sig .tc := ⟨.hbm, 510, rfl⟩
abbrev main_c_71 : Ref sig .tc := ⟨.hbm, 511, rfl⟩
abbrev main_v377 : Ref sig .tc := ⟨.hbm, 512, rfl⟩
abbrev main_v378 : Ref sig .tc := ⟨.hbm, 513, rfl⟩
abbrev main_v379 : Ref sig .tc := ⟨.hbm, 514, rfl⟩
abbrev main_c_72 : Ref sig .tc := ⟨.hbm, 515, rfl⟩
abbrev main_v380 : Ref sig .tc := ⟨.hbm, 516, rfl⟩
abbrev main_v381 : Ref sig .tc := ⟨.hbm, 517, rfl⟩
abbrev main_v382 : Ref sig .tc := ⟨.hbm, 518, rfl⟩
abbrev main_v383 : Ref sig .tc := ⟨.hbm, 519, rfl⟩
abbrev main_c_73 : Ref sig .tc := ⟨.hbm, 520, rfl⟩
abbrev main_v384 : Ref sig .tc := ⟨.hbm, 521, rfl⟩
abbrev main_v385 : Ref sig .tc := ⟨.hbm, 522, rfl⟩
abbrev main_c_74 : Ref sig .tc := ⟨.hbm, 523, rfl⟩
abbrev main_v386 : Ref sig .tc := ⟨.hbm, 524, rfl⟩
abbrev main_v387 : Ref sig .tc := ⟨.hbm, 525, rfl⟩
abbrev main_v388 : Ref sig .tc := ⟨.hbm, 526, rfl⟩
abbrev main_c_75 : Ref sig .tc := ⟨.hbm, 527, rfl⟩
abbrev main_v389 : Ref sig .tc := ⟨.hbm, 528, rfl⟩
abbrev main_v390 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩
abbrev main_v397 : Ref sig .tc := ⟨.hbm, 536, rfl⟩
abbrev main_v398 : Ref sig .tc := ⟨.hbm, 537, rfl⟩
abbrev main_v399 : Ref sig .tc := ⟨.hbm, 538, rfl⟩
abbrev main_v400 : Ref sig .tc := ⟨.hbm, 539, rfl⟩
abbrev main_v401 : Ref sig .tc := ⟨.hbm, 540, rfl⟩
abbrev main_v402 : Ref sig .tc := ⟨.hbm, 541, rfl⟩
abbrev main_v403 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_c_76 : Ref sig .tc := ⟨.hbm, 549, rfl⟩
abbrev main_v410 : Ref sig .tc := ⟨.hbm, 550, rfl⟩
abbrev main_v411 : Ref sig .tc := ⟨.hbm, 551, rfl⟩
abbrev main_c_77 : Ref sig .tc := ⟨.hbm, 552, rfl⟩
abbrev main_v412 : Ref sig .tc := ⟨.hbm, 553, rfl⟩
abbrev main_v413 : Ref sig .tc := ⟨.hbm, 554, rfl⟩
abbrev main_c_78 : Ref sig .tc := ⟨.hbm, 555, rfl⟩
abbrev main_v414 : Ref sig .tc := ⟨.hbm, 556, rfl⟩
abbrev main_v415 : Ref sig .tc := ⟨.hbm, 557, rfl⟩
abbrev main_v416 : Ref sig .tc := ⟨.hbm, 558, rfl⟩
abbrev main_c_79 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_v420 : Ref sig .tc := ⟨.hbm, 563, rfl⟩
abbrev main_c_80 : Ref sig .tc := ⟨.hbm, 564, rfl⟩
abbrev main_v421 : Ref sig .tc := ⟨.hbm, 565, rfl⟩
abbrev main_v422 : Ref sig .tc := ⟨.hbm, 566, rfl⟩
abbrev main_c_81 : Ref sig .tc := ⟨.hbm, 567, rfl⟩
abbrev main_v423 : Ref sig .tc := ⟨.hbm, 568, rfl⟩
abbrev main_v424 : Ref sig .tc := ⟨.hbm, 569, rfl⟩
abbrev main_v425 : Ref sig .tc := ⟨.hbm, 570, rfl⟩
abbrev main_c_82 : Ref sig .tc := ⟨.hbm, 571, rfl⟩
abbrev main_v426 : Ref sig .tc := ⟨.hbm, 572, rfl⟩
abbrev main_v427 : Ref sig .tc := ⟨.hbm, 573, rfl⟩
abbrev main_v428 : Ref sig .tc := ⟨.hbm, 574, rfl⟩
abbrev main_v429 : Ref sig .tc := ⟨.hbm, 575, rfl⟩
abbrev main_v430 : Ref sig .tc := ⟨.hbm, 576, rfl⟩
abbrev main_v431 : Ref sig .tc := ⟨.hbm, 577, rfl⟩
abbrev main_v432 : Ref sig .tc := ⟨.hbm, 578, rfl⟩
abbrev main_v433 : Ref sig .tc := ⟨.hbm, 579, rfl⟩
abbrev main_v434 : Ref sig .tc := ⟨.hbm, 580, rfl⟩
abbrev main_v435 : Ref sig .tc := ⟨.hbm, 581, rfl⟩
abbrev main_v436 : Ref sig .tc := ⟨.hbm, 582, rfl⟩
abbrev main_v437 : Ref sig .tc := ⟨.hbm, 583, rfl⟩
abbrev main_v438 : Ref sig .tc := ⟨.hbm, 584, rfl⟩
abbrev main_v439 : Ref sig .tc := ⟨.hbm, 585, rfl⟩
abbrev main_v440 : Ref sig .tc := ⟨.hbm, 586, rfl⟩
abbrev main_v441 : Ref sig .tc := ⟨.hbm, 587, rfl⟩
abbrev main_v442 : Ref sig .tc := ⟨.hbm, 588, rfl⟩
abbrev main_v443 : Ref sig .tc := ⟨.hbm, 589, rfl⟩
abbrev main_v444 : Ref sig .tc := ⟨.hbm, 590, rfl⟩
abbrev main_v445 : Ref sig .tc := ⟨.hbm, 591, rfl⟩
abbrev main_v446 : Ref sig .tc := ⟨.hbm, 592, rfl⟩
abbrev main_c_83 : Ref sig .tc := ⟨.hbm, 593, rfl⟩
abbrev main_v447 : Ref sig .tc := ⟨.hbm, 594, rfl⟩
abbrev main_v448 : Ref sig .tc := ⟨.hbm, 595, rfl⟩
abbrev main_c_84 : Ref sig .tc := ⟨.hbm, 596, rfl⟩
abbrev main_v449 : Ref sig .tc := ⟨.hbm, 597, rfl⟩
abbrev main_v450 : Ref sig .tc := ⟨.hbm, 598, rfl⟩
abbrev main_c_85 : Ref sig .tc := ⟨.hbm, 599, rfl⟩
abbrev main_v451 : Ref sig .tc := ⟨.hbm, 600, rfl⟩
abbrev main_v452 : Ref sig .tc := ⟨.hbm, 601, rfl⟩
abbrev main_v453 : Ref sig .tc := ⟨.hbm, 602, rfl⟩
abbrev main_c_86 : Ref sig .tc := ⟨.hbm, 603, rfl⟩
abbrev main_v454 : Ref sig .tc := ⟨.hbm, 604, rfl⟩
abbrev main_v455 : Ref sig .tc := ⟨.hbm, 605, rfl⟩
abbrev main_v456 : Ref sig .tc := ⟨.hbm, 606, rfl⟩
abbrev main_v457 : Ref sig .tc := ⟨.hbm, 607, rfl⟩
abbrev main_c_87 : Ref sig .tc := ⟨.hbm, 608, rfl⟩
abbrev main_v458 : Ref sig .tc := ⟨.hbm, 609, rfl⟩
abbrev main_v459 : Ref sig .tc := ⟨.hbm, 610, rfl⟩
abbrev main_c_88 : Ref sig .tc := ⟨.hbm, 611, rfl⟩
abbrev main_v460 : Ref sig .tc := ⟨.hbm, 612, rfl⟩
abbrev main_v461 : Ref sig .tc := ⟨.hbm, 613, rfl⟩
abbrev main_v462 : Ref sig .tc := ⟨.hbm, 614, rfl⟩
abbrev main_c_89 : Ref sig .tc := ⟨.hbm, 615, rfl⟩
abbrev main_v463 : Ref sig .tc := ⟨.hbm, 616, rfl⟩
abbrev main_v464 : Ref sig .tc := ⟨.hbm, 617, rfl⟩
abbrev main_v465 : Ref sig .tc := ⟨.hbm, 618, rfl⟩
abbrev main_v466 : Ref sig .tc := ⟨.hbm, 619, rfl⟩
abbrev main_v467 : Ref sig .tc := ⟨.hbm, 620, rfl⟩
abbrev main_v468 : Ref sig .tc := ⟨.hbm, 621, rfl⟩
abbrev main_v469 : Ref sig .tc := ⟨.hbm, 622, rfl⟩
abbrev main_v470 : Ref sig .tc := ⟨.hbm, 623, rfl⟩
abbrev main_v471 : Ref sig .tc := ⟨.hbm, 624, rfl⟩
abbrev main_v472 : Ref sig .tc := ⟨.hbm, 625, rfl⟩
abbrev main_v473 : Ref sig .tc := ⟨.hbm, 626, rfl⟩
abbrev main_v474 : Ref sig .tc := ⟨.hbm, 627, rfl⟩
abbrev main_v475 : Ref sig .tc := ⟨.hbm, 628, rfl⟩
abbrev main_v476 : Ref sig .tc := ⟨.hbm, 629, rfl⟩
abbrev main_v477 : Ref sig .tc := ⟨.hbm, 630, rfl⟩
abbrev main_v478 : Ref sig .tc := ⟨.hbm, 631, rfl⟩
abbrev main_v479 : Ref sig .tc := ⟨.hbm, 632, rfl⟩
abbrev main_v480 : Ref sig .tc := ⟨.hbm, 633, rfl⟩
abbrev main_v481 : Ref sig .tc := ⟨.hbm, 634, rfl⟩
abbrev main_v482 : Ref sig .tc := ⟨.hbm, 635, rfl⟩
abbrev main_v483 : Ref sig .tc := ⟨.hbm, 636, rfl⟩
abbrev main_c_90 : Ref sig .tc := ⟨.hbm, 637, rfl⟩
abbrev main_v484 : Ref sig .tc := ⟨.hbm, 638, rfl⟩
abbrev main_v485 : Ref sig .tc := ⟨.hbm, 639, rfl⟩
abbrev main_c_91 : Ref sig .tc := ⟨.hbm, 640, rfl⟩
abbrev main_v486 : Ref sig .tc := ⟨.hbm, 641, rfl⟩
abbrev main_v487 : Ref sig .tc := ⟨.hbm, 642, rfl⟩
abbrev main_c_92 : Ref sig .tc := ⟨.hbm, 643, rfl⟩
abbrev main_v488 : Ref sig .tc := ⟨.hbm, 644, rfl⟩
abbrev main_v489 : Ref sig .tc := ⟨.hbm, 645, rfl⟩
abbrev main_v490 : Ref sig .tc := ⟨.hbm, 646, rfl⟩
abbrev main_c_93 : Ref sig .tc := ⟨.hbm, 647, rfl⟩
abbrev main_v491 : Ref sig .tc := ⟨.hbm, 648, rfl⟩
abbrev main_v492 : Ref sig .tc := ⟨.hbm, 649, rfl⟩
abbrev main_v493 : Ref sig .tc := ⟨.hbm, 650, rfl⟩
abbrev main_v494 : Ref sig .tc := ⟨.hbm, 651, rfl⟩
abbrev main_c_94 : Ref sig .tc := ⟨.hbm, 652, rfl⟩
abbrev main_v495 : Ref sig .tc := ⟨.hbm, 653, rfl⟩
abbrev main_v496 : Ref sig .tc := ⟨.hbm, 654, rfl⟩
abbrev main_c_95 : Ref sig .tc := ⟨.hbm, 655, rfl⟩
abbrev main_v497 : Ref sig .tc := ⟨.hbm, 656, rfl⟩
abbrev main_v498 : Ref sig .tc := ⟨.hbm, 657, rfl⟩
abbrev main_v499 : Ref sig .tc := ⟨.hbm, 658, rfl⟩
abbrev main_c_96 : Ref sig .tc := ⟨.hbm, 659, rfl⟩
abbrev main_v500 : Ref sig .tc := ⟨.hbm, 660, rfl⟩
abbrev main_v501 : Ref sig .tc := ⟨.hbm, 661, rfl⟩
abbrev main_v502 : Ref sig .tc := ⟨.hbm, 662, rfl⟩
abbrev main_v503 : Ref sig .tc := ⟨.hbm, 663, rfl⟩
abbrev main_v504 : Ref sig .tc := ⟨.hbm, 664, rfl⟩
abbrev main_v505 : Ref sig .tc := ⟨.hbm, 665, rfl⟩
abbrev main_v506 : Ref sig .tc := ⟨.hbm, 666, rfl⟩
abbrev main_v507 : Ref sig .tc := ⟨.hbm, 667, rfl⟩
abbrev main_v508 : Ref sig .tc := ⟨.hbm, 668, rfl⟩
abbrev main_v509 : Ref sig .tc := ⟨.hbm, 669, rfl⟩
abbrev main_v510 : Ref sig .tc := ⟨.hbm, 670, rfl⟩
abbrev main_v511 : Ref sig .tc := ⟨.hbm, 671, rfl⟩
abbrev main_v512 : Ref sig .tc := ⟨.hbm, 672, rfl⟩
abbrev main_v513 : Ref sig .tc := ⟨.hbm, 673, rfl⟩
abbrev main_v514 : Ref sig .tc := ⟨.hbm, 674, rfl⟩
abbrev main_v515 : Ref sig .tc := ⟨.hbm, 675, rfl⟩
abbrev main_v516 : Ref sig .tc := ⟨.hbm, 676, rfl⟩
abbrev main_v517 : Ref sig .tc := ⟨.hbm, 677, rfl⟩
abbrev main_v518 : Ref sig .tc := ⟨.hbm, 678, rfl⟩
abbrev main_v519 : Ref sig .tc := ⟨.hbm, 679, rfl⟩
abbrev main_v520 : Ref sig .tc := ⟨.hbm, 680, rfl⟩
abbrev main_c_97 : Ref sig .tc := ⟨.hbm, 681, rfl⟩
abbrev main_v521 : Ref sig .tc := ⟨.hbm, 682, rfl⟩
abbrev main_v522 : Ref sig .tc := ⟨.hbm, 683, rfl⟩
abbrev main_c_98 : Ref sig .tc := ⟨.hbm, 684, rfl⟩
abbrev main_v523 : Ref sig .tc := ⟨.hbm, 685, rfl⟩
abbrev main_v524 : Ref sig .tc := ⟨.hbm, 686, rfl⟩
abbrev main_c_99 : Ref sig .tc := ⟨.hbm, 687, rfl⟩
abbrev main_v525 : Ref sig .tc := ⟨.hbm, 688, rfl⟩
abbrev main_v526 : Ref sig .tc := ⟨.hbm, 689, rfl⟩
abbrev main_v527 : Ref sig .tc := ⟨.hbm, 690, rfl⟩
abbrev main_c_100 : Ref sig .tc := ⟨.hbm, 691, rfl⟩
abbrev main_v528 : Ref sig .tc := ⟨.hbm, 692, rfl⟩
abbrev main_v529 : Ref sig .tc := ⟨.hbm, 693, rfl⟩
abbrev main_v530 : Ref sig .tc := ⟨.hbm, 694, rfl⟩
abbrev main_v531 : Ref sig .tc := ⟨.hbm, 695, rfl⟩
abbrev main_c_101 : Ref sig .tc := ⟨.hbm, 696, rfl⟩
abbrev main_v532 : Ref sig .tc := ⟨.hbm, 697, rfl⟩
abbrev main_v533 : Ref sig .tc := ⟨.hbm, 698, rfl⟩
abbrev main_c_102 : Ref sig .tc := ⟨.hbm, 699, rfl⟩
abbrev main_v534 : Ref sig .tc := ⟨.hbm, 700, rfl⟩
abbrev main_v535 : Ref sig .tc := ⟨.hbm, 701, rfl⟩
abbrev main_v536 : Ref sig .tc := ⟨.hbm, 702, rfl⟩
abbrev main_c_103 : Ref sig .tc := ⟨.hbm, 703, rfl⟩
abbrev main_v537 : Ref sig .tc := ⟨.hbm, 704, rfl⟩
abbrev main_v538 : Ref sig .tc := ⟨.hbm, 705, rfl⟩
abbrev main_v539 : Ref sig .tc := ⟨.hbm, 706, rfl⟩
abbrev main_v540 : Ref sig .tc := ⟨.hbm, 707, rfl⟩
abbrev main_v541 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_v547 : Ref sig .tc := ⟨.hbm, 714, rfl⟩
abbrev main_v548 : Ref sig .tc := ⟨.hbm, 715, rfl⟩
abbrev main_v549 : Ref sig .tc := ⟨.hbm, 716, rfl⟩
abbrev main_v550 : Ref sig .tc := ⟨.hbm, 717, rfl⟩
abbrev main_v551 : Ref sig .tc := ⟨.hbm, 718, rfl⟩
abbrev main_v552 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_v556 : Ref sig .tc := ⟨.hbm, 723, rfl⟩
abbrev main_v557 : Ref sig .tc := ⟨.hbm, 724, rfl⟩
abbrev main_v558 : Ref sig .tc := ⟨.hbm, 725, rfl⟩
abbrev main_c_104 : Ref sig .tc := ⟨.hbm, 726, rfl⟩
abbrev main_v559 : Ref sig .tc := ⟨.hbm, 727, rfl⟩
abbrev main_v560 : Ref sig .tc := ⟨.hbm, 728, rfl⟩
abbrev main_c_105 : Ref sig .tc := ⟨.hbm, 729, rfl⟩
abbrev main_v561 : Ref sig .tc := ⟨.hbm, 730, rfl⟩
abbrev main_v562 : Ref sig .tc := ⟨.hbm, 731, rfl⟩
abbrev main_c_106 : Ref sig .tc := ⟨.hbm, 732, rfl⟩
abbrev main_v563 : Ref sig .tc := ⟨.hbm, 733, rfl⟩
abbrev main_v564 : Ref sig .tc := ⟨.hbm, 734, rfl⟩
abbrev main_v565 : Ref sig .tc := ⟨.hbm, 735, rfl⟩
abbrev main_c_107 : Ref sig .tc := ⟨.hbm, 736, rfl⟩
abbrev main_v566 : Ref sig .tc := ⟨.hbm, 737, rfl⟩
abbrev main_v567 : Ref sig .tc := ⟨.hbm, 738, rfl⟩
abbrev main_v568 : Ref sig .tc := ⟨.hbm, 739, rfl⟩
abbrev main_v569 : Ref sig .tc := ⟨.hbm, 740, rfl⟩
abbrev main_c_108 : Ref sig .tc := ⟨.hbm, 741, rfl⟩
abbrev main_v570 : Ref sig .tc := ⟨.hbm, 742, rfl⟩
abbrev main_v571 : Ref sig .tc := ⟨.hbm, 743, rfl⟩
abbrev main_c_109 : Ref sig .tc := ⟨.hbm, 744, rfl⟩
abbrev main_v572 : Ref sig .tc := ⟨.hbm, 745, rfl⟩
abbrev main_v573 : Ref sig .tc := ⟨.hbm, 746, rfl⟩
abbrev main_v574 : Ref sig .tc := ⟨.hbm, 747, rfl⟩
abbrev main_c_110 : Ref sig .tc := ⟨.hbm, 748, rfl⟩
abbrev main_v575 : Ref sig .tc := ⟨.hbm, 749, rfl⟩
abbrev main_v576 : Ref sig .tc := ⟨.hbm, 750, rfl⟩
abbrev main_v577 : Ref sig .tc := ⟨.hbm, 751, rfl⟩
abbrev main_v578 : Ref sig .tc := ⟨.hbm, 752, rfl⟩
abbrev main_v579 : Ref sig .tc := ⟨.hbm, 753, rfl⟩
abbrev main_v580 : Ref sig .tc := ⟨.hbm, 754, rfl⟩
abbrev main_v581 : Ref sig .tc := ⟨.hbm, 755, rfl⟩
abbrev main_cst_111 : Ref sig .tc := ⟨.hbm, 756, rfl⟩
abbrev main_v582 : Ref sig .tc := ⟨.hbm, 757, rfl⟩
abbrev main_v583 : Ref sig .tc := ⟨.hbm, 758, rfl⟩
abbrev main_v584 : Ref sig .tc := ⟨.hbm, 759, rfl⟩
abbrev main_v585 : Ref sig .tc := ⟨.hbm, 760, rfl⟩
abbrev main_v586 : Ref sig .tc := ⟨.hbm, 761, rfl⟩
abbrev main_v587 : Ref sig .tc := ⟨.hbm, 762, rfl⟩
abbrev main_v588 : Ref sig .tc := ⟨.hbm, 763, rfl⟩
abbrev main_v589 : Ref sig .tc := ⟨.hbm, 764, rfl⟩
abbrev main_v590 : Ref sig .tc := ⟨.hbm, 765, rfl⟩
abbrev main_cst_112 : Ref sig .tc := ⟨.hbm, 766, rfl⟩
abbrev main_v591 : Ref sig .tc := ⟨.hbm, 767, rfl⟩
abbrev main_v592 : Ref sig .tc := ⟨.hbm, 768, rfl⟩
abbrev main_v593 : Ref sig .tc := ⟨.hbm, 769, rfl⟩
abbrev main_v594 : Ref sig .tc := ⟨.hbm, 770, rfl⟩
abbrev main_v595 : Ref sig .tc := ⟨.hbm, 771, rfl⟩
abbrev main_v596 : Ref sig .tc := ⟨.hbm, 772, rfl⟩
abbrev main_v597 : Ref sig .tc := ⟨.hbm, 773, rfl⟩
abbrev main_v598 : Ref sig .tc := ⟨.hbm, 774, rfl⟩
abbrev main_v599 : Ref sig .tc := ⟨.hbm, 775, rfl⟩
abbrev main_v600 : Ref sig .tc := ⟨.hbm, 776, rfl⟩
abbrev main_cst_113 : Ref sig .tc := ⟨.hbm, 777, rfl⟩
abbrev main_v601 : Ref sig .tc := ⟨.hbm, 778, rfl⟩
abbrev main_v602 : Ref sig .tc := ⟨.hbm, 779, rfl⟩
abbrev main_v603 : Ref sig .tc := ⟨.hbm, 780, rfl⟩
abbrev main_v604 : Ref sig .tc := ⟨.hbm, 781, rfl⟩
abbrev main_cst_114 : Ref sig .tc := ⟨.hbm, 782, rfl⟩
abbrev main_v605 : Ref sig .tc := ⟨.hbm, 783, rfl⟩
abbrev main_v606 : Ref sig .tc := ⟨.hbm, 784, rfl⟩
abbrev main_v607 : Ref sig .tc := ⟨.hbm, 785, rfl⟩
abbrev main_v608 : Ref sig .tc := ⟨.hbm, 786, rfl⟩
abbrev main_v609 : Ref sig .tc := ⟨.hbm, 787, rfl⟩
abbrev main_v610 : Ref sig .tc := ⟨.hbm, 788, rfl⟩
abbrev main_v611 : Ref sig .tc := ⟨.hbm, 789, rfl⟩
abbrev main_v612 : Ref sig .tc := ⟨.hbm, 790, rfl⟩
abbrev main_cst_115 : Ref sig .tc := ⟨.hbm, 791, rfl⟩
abbrev main_v613 : Ref sig .tc := ⟨.hbm, 792, rfl⟩
abbrev main_v614 : Ref sig .tc := ⟨.hbm, 793, rfl⟩
abbrev main_v615 : Ref sig .tc := ⟨.hbm, 794, rfl⟩
abbrev main_v616 : Ref sig .tc := ⟨.hbm, 795, rfl⟩
abbrev main_cst_116 : Ref sig .tc := ⟨.hbm, 796, rfl⟩
abbrev main_call11_v0 : Ref sig .tc := ⟨.hbm, 797, rfl⟩
abbrev main_call11_v1 : Ref sig .tc := ⟨.hbm, 798, rfl⟩
abbrev main_v617 : Ref sig .tc := ⟨.hbm, 799, rfl⟩
abbrev main_v618 : Ref sig .tc := ⟨.hbm, 800, rfl⟩
abbrev main_cst_117 : Ref sig .tc := ⟨.hbm, 801, rfl⟩
abbrev main_v619 : Ref sig .tc := ⟨.hbm, 802, rfl⟩
abbrev main_v620 : Ref sig .tc := ⟨.hbm, 803, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Read
public import Idealize.ShloMosaic.Lib.Claim

@[expose] public section

set_option maxRecDepth 65536

noncomputable section

namespace Cert.ReferenceIdeal.Stage

open Idealize.ShloMosaic Idealize.ShloMosaic.TcCoe Idealize.SL.Sem
open Cert.ReferenceIdeal Cert.ReferenceIdeal.Gen Cert.ReferenceIdeal.Read

variable (m : (ℓ : Loc nD τ sig) → Buf (Elt Ideal) ℓ) (ρ : Dev nD → PrngReg)

/-- A run of the reference's program ends with its two results' terms and the arguments as launched. -/
theorem run : θ_run defs (onTc (τ := τ) (main (F := Ideal))) ⟨m, fun _ => 0, ρ⟩ fun r => ∀ c : Dev nD,
      r.2.mem ((c.tc : Thread nD τ).loc main_v618) = val_main_v618 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v620) = val_main_v620 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.ReferenceIdeal.Value.run (F := Ideal) m ρ)
  exact ⟨(h c).1.trans (val_main_v618_eq (F := Ideal) (StableHlo.launchContents m c)), (h c).2.1.trans (val_main_v620_eq (F := Ideal) (StableHlo.launchContents m c)), (h c).2.2⟩

/-- The reference's program leaves its arguments as launched and every semaphore counter at zero; it declares no semaphore. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run defs _ _).mono (fun r h => ⟨fun c => (h c).2.2, sem_eq_zero_of_no_sems (by decide) r.2⟩) (run m ρ)

end Cert.ReferenceIdeal.Stage
end
-- ==== Proof.Conv1.lean ====
module

public import proofs.«01_k».proof.Proof.Gen.KernelIdeal.Skeleton
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

/-- Two `if`s on a condition and a word comparison that says the same. -/
theorem select_eq_word (n k : ℕ) (hn : n < 4608) (hk : k < 4608) (a b : EReal) :
    Scalar.select (IntOp.cmpi .eq (BitVec.ofNat 32 n) (BitVec.ofNat 32 k)) a b = if n = k then a else b := by
  have h : (BitVec.ofNat 32 n = BitVec.ofNat 32 k) ↔ n = k := by
    constructor
    · intro e
      have := congrArg BitVec.toNat e
      simp only [BitVec.toNat_ofNat] at this
      omega
    · rintro rfl; rfl
  by_cases e : n = k
  · subst e; simp [Scalar.select, IntOp.cmpi]
  · have e' : ¬ BitVec.ofNat 32 n = BitVec.ofNat 32 k := fun q => e (h.1 q)
    have e2 : (BitVec.ofNat 32 n == BitVec.ofNat 32 k) = false := beq_false_of_ne e'
    simp [Scalar.select, IntOp.cmpi, e2, if_neg e]

/-- The kernel's column number of a lane of the input tile is the lane modulo the row length. -/
theorem pay8_at (l : Fin 4608) : k0_pay8 (ix2 0 l) = BitVec.ofNat 32 (l.val % 128) := by
  pointwise [k0_pay8]
  revert l
  decide +kernel

/-- The input tile shifted by one column, the column that falls in set to zero: `dx = 0` reads the left neighbour, `1` the
    tile itself, `2` the right neighbour. -/
def sh1 (v : FVec Ideal S16x4608 .f32) (dx : Fin 3) : FVec Ideal S16x4608 .f32 :=
  match dx with
  | 0 => select (broadcastTo S16x4608 (shapeCast S1x4608 (cmpi .eq k0_pay8 (broadcast S1x4608 0#32)) shapeCasts_S1x4608_S1x4608) broadcasts_S1x4608_S16x4608)
      (broadcast S16x4608 (Scalar.ofBits .f32 0x00000000#32)) (dynamicRotate 1 1#32 none v rotates_S16x4608_d1)
  | 1 => v
  | 2 => select (broadcastTo S16x4608 (shapeCast S1x4608 (cmpi .eq k0_pay8 (broadcast S1x4608 127#32)) shapeCasts_S1x4608_S1x4608) broadcasts_S1x4608_S16x4608)
      (broadcast S16x4608 (Scalar.ofBits .f32 0x00000000#32)) (dynamicRotate 1 4607#32 none v rotates_S16x4608_d1)

/-- The three row shifts of a shifted tile, one under the other. -/
def rhs1 (s : FVec Ideal S16x4608 .f32) : FVec Ideal S48x4352 .f32 :=
  concatenate S48x4352 0 [⟨S16x4352, extractStridedSlice S16x4352 ![0, 0] s slices_S16x4608_o0_0_S16x4352⟩,
    ⟨S16x4352, extractStridedSlice S16x4352 ![0, 128] s slices_S16x4608_o0_128_S16x4352⟩,
    ⟨S16x4352, extractStridedSlice S16x4352 ![0, 256] s slices_S16x4608_o0_256_S16x4352⟩] concatenates_S16x4352_S16x4352_S16x4352_S48x4352_d0

/-- The three taps' products of the first convolution, added. -/
def dots1 (w : FVec Ideal S3x64x48 .f32) (a0 a1 a2 : FVec Ideal S48x4352 .f32) : FVec Ideal S64x4352 .f32 :=
  addf (addf
    (matmul dot_S64x48_S48x4352_S64x4352_1_0_0_1_n_n none (k0_pay10 (F := Ideal) w) a0 (constant S64x4352 .f32 0x00000000#32))
    (matmul dot_S64x48_S48x4352_S64x4352_1_0_0_1_n_n none (shapeCast S64x48 (extractStridedSlice S1x64x48 ![1, 0, 0] (k0_pay7 (F := Ideal) w) slices_S3x64x48_o1_0_0_S1x64x48) shapeCasts_S1x64x48_S64x48) a1 (constant S64x4352 .f32 0x00000000#32)))
    (matmul dot_S64x48_S48x4352_S64x4352_1_0_0_1_n_n none (shapeCast S64x48 (extractStridedSlice S1x64x48 ![2, 0, 0] (k0_pay7 (F := Ideal) w) slices_S3x64x48_o2_0_0_S1x64x48) shapeCasts_S1x64x48_S64x48) a2 (constant S64x4352 .f32 0x00000000#32))

/-- The hidden layer before the second product: the first convolution, the bias added, cut at zero. -/
def hid1 (c : FVec Ideal S64x4352 .f32) (b : FVec Ideal S64x1 .f32) : FVec Ideal S64x4352 .f32 :=
  maximumf (addf c (broadcastTo S64x4352 (shapeCast S64x1 b shapeCasts_S64x1_S64x1) broadcasts_S64x1_S64x4352))
    (broadcast S64x4352 (Scalar.ofBits .f32 0x00000000#32))

/-- The second layer: a product with the 1×1 weights, the bias added, cut at zero. -/
def hid2 (w : FVec Ideal S64x64 .f32) (h : FVec Ideal S64x4352 .f32) (b : FVec Ideal S64x1 .f32) : FVec Ideal S64x4352 .f32 :=
  hid1 (matmul dot_S64x64_S64x4352_S64x4352_1_0_0_1_n_n none (shapeCast S64x64 w shapeCasts_S64x64_S64x64) h (constant S64x4352 .f32 0x00000000#32)) b

/-- The kernel's second layer in these pieces. -/
theorem pay11_eq (v42 : FVec Ideal S1x4608 .f32) (v45 : FVec Ideal S1x12x4608 .f32) (v49 : FVec Ideal S1x4x4608 .f32)
    (w : FVec Ideal S3x64x48 .f32) (b1 : FVec Ideal S64x1 .f32) (w2 : FVec Ideal S64x64 .f32) (b2 : FVec Ideal S64x1 .f32) :
    k0_pay11 (F := Ideal) (k0_pay6 v42 v45 v49) (k0_pay7 w) k0_pay8 (k0_pay9 v42 v45 v49) (k0_pay10 w)
        (constant S64x4352 .f32 0x00000000#32) b1 w2 b2
      = hid2 w2 (hid1 (dots1 w (rhs1 (sh1 (k0_pay6 v42 v45 v49) 0)) (rhs1 (sh1 (k0_pay6 v42 v45 v49) 1)) (rhs1 (sh1 (k0_pay6 v42 v45 v49) 2))) b1) b2 := rfl

/-- A row of the stacked shifts: entry `16 dy + c` is channel `c`, `dy` rows further. -/
theorem rhs1_at (s : FVec Ideal S16x4608 .f32) (dy : Fin 3) (c : Fin 16) (l : Fin 4352) :
    rhs1 s (ix2 (⟨dy.val * 16 + c.val, by omega⟩ : Fin 48) l) = s (ix2 c (⟨dy.val * 128 + l.val, by omega⟩ : Fin 4608)) := by
  pointwise [rhs1]
  fin_cases dy
  · rw [dif_pos (by show 0 * 16 + c.val < 16; omega)]
    congr 1; idx_ext <;> simp
  · rw [dif_neg (by show ¬ 1 * 16 + c.val < 16; omega), dif_pos (by show 1 * 16 + c.val - 16 < 16; omega)]
    congr 1; idx_ext <;> simp
  · rw [dif_neg (by show ¬ 2 * 16 + c.val < 16; omega), dif_neg (by show ¬ 2 * 16 + c.val - 16 < 16; omega)]
    congr 1; idx_ext <;> simp <;> omega

/-- The shifted tile at a lane, for a tile that holds `G` at its rows and columns (columns counted from 1, zero at 0 and 129). -/
theorem sh1_at (G : Fin 16 → ℕ → ℕ → EReal) (R : ℕ) (h0 : ∀ c r, G c r 0 = 0) (h1 : ∀ c r, G c r 129 = 0)
    (v : FVec Ideal S16x4608 .f32) (hv : ∀ (c : Fin 16) (l : Fin 4608), v (ix2 c l) = G c (R + l.val / 128) (l.val % 128 + 1))
    (dx : Fin 3) (c : Fin 16) (l : Fin 4608) :
    sh1 v dx (ix2 c l) = G c (R + l.val / 128) (l.val % 128 + dx.val) := by
  fin_cases dx
  · show sh1 v 0 (ix2 c l) = G c (R + l.val / 128) (l.val % 128 + 0)
    pointwise [sh1, pay8_at, hv]
    rw [select_eq_word _ 0 (by omega) (by omega)]
    by_cases e : l.val % 128 = 0
    · rw [if_pos e, e, h0]
    · rw [if_neg e]
      have e1 : (l.val + 4608 - 1) % 4608 = l.val - 1 := by omega
      rw [e1]
      congr 1 <;> omega
  · exact hv c l
  · show sh1 v 2 (ix2 c l) = G c (R + l.val / 128) (l.val % 128 + 2)
    pointwise [sh1, pay8_at, hv]
    rw [select_eq_word _ 127 (by omega) (by omega)]
    by_cases e : l.val % 128 = 127
    · rw [if_pos e, e, h1]
    · rw [if_neg e]
      have e1 : (l.val + 4608 - 4607) % 4608 = l.val + 1 := by omega
      rw [e1]
      congr 1 <;> omega

/-- The taps' products at a lane: three sums over the stacked rows. -/
theorem dots1_at (w : FVec Ideal S3x64x48 .f32) (a0 a1 a2 : FVec Ideal S48x4352 .f32) (o : Fin 64) (l : Fin 4352) :
    dots1 w a0 a1 a2 (ix2 o l) = (∑ k : Fin 48, w (ix3 0 o k) * a0 (ix2 k l)) + (∑ k : Fin 48, w (ix3 1 o k) * a1 (ix2 k l))
      + ∑ k : Fin 48, w (ix3 2 o k) * a2 (ix2 k l) := by
  pointwise [dots1, k0_pay10, k0_pay7]

/-- The first hidden layer at a lane. -/
theorem hid1_at (c : FVec Ideal S64x4352 .f32) (b : FVec Ideal S64x1 .f32) (o : Fin 64) (l : Fin 4352) :
    hid1 c b (ix2 o l) = max (c (ix2 o l) + b (ix2 o 0)) 0 := by
  pointwise [hid1]

/-- The second hidden layer at a lane. -/
theorem hid2_at (w : FVec Ideal S64x64 .f32) (h : FVec Ideal S64x4352 .f32) (b : FVec Ideal S64x1 .f32) (o : Fin 64) (l : Fin 4352) :
    hid2 w h b (ix2 o l) = max ((∑ k : Fin 64, w (ix2 o k) * h (ix2 k l)) + b (ix2 o 0)) 0 := by
  rw [hid2, hid1_at]
  pointwise []

end Cert.KernelIdeal.Body
end
-- ==== Proof.Conv2.lean ====
module

public import proofs.«01_k».proof.Proof.Conv1
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

/-- The parity of a lane of the input tile: row plus column modulo two. -/
theorem pay4_at (l : Fin 4608) :
    k0_pay4 (F := Ideal) (ix2 0 l) = FloatOps.sitofp (F := Ideal) .f32 (BitVec.ofNat 32 ((l.val / 128 + l.val) % 2)) := by
  pointwise [k0_pay4]
  refine congrArg (FloatOps.sitofp (F := Ideal) .f32) ?_
  revert l
  decide +kernel

/-- The parity of a lane of the output tile. -/
theorem pay34_at (l : Fin 4096) :
    k0_pay34 (F := Ideal) k0_pay33 2#32 (ix2 0 l) = FloatOps.sitofp (F := Ideal) .f32 (BitVec.ofNat 32 ((l.val / 128 + l.val) % 2)) := by
  pointwise [k0_pay34, k0_pay33]
  refine congrArg (FloatOps.sitofp (F := Ideal) .f32) ?_
  revert l
  decide +kernel

/-- The hidden layer is kept at the rows of the image and zero outside. -/
theorem pay13_at (v124 : FVec Ideal S64x4352 .f32) (t : Fin 4) (o : Fin 64) (l : Fin 4352) :
    k0_pay13 (F := Ideal) v124 (iota .tc S1x4352 32 [1] iota_S1x4352_d1_w32)
        (Scalar.subi (Scalar.muli (BitVec.ofNat 32 t.val) 32#32) 1#32) 128#32 k0_pay12 (ix2 o l)
      = if 1 ≤ 32 * t.val + l.val / 128 ∧ 32 * t.val + l.val / 128 < 129 then v124 (ix2 o l) else 0 := by
  pointwise [k0_pay13, k0_pay12]
  refine Eq.trans (congrArg (fun m => Scalar.select m (v124 (ix2 o l)) 0)
    (?_ : _ = if 1 ≤ 32 * t.val + l.val / 128 ∧ 32 * t.val + l.val / 128 < 129 then 1#1 else 0#1)) ?_
  · revert t l
    decide +kernel
  · split <;> rfl

/-- The column number of a lane of the hidden tile, as the kernel computes it. -/
def col2 : IVec S1x4352 32 :=
  select (andi (xori (cmpi .slt k0_pay15 (broadcast S1x4352 0#32)) (broadcastTo S1x4352 (broadcast S1x4352 (Scalar.cmpi .slt (Scalar.select (Scalar.cmpi .eq 128#32 0#32) 1#32 128#32) 0#32)) broadcasts_S1x4352_S1x4352)) k0_pay16)
    (addi k0_pay15 (broadcast S1x4352 (Scalar.select (Scalar.cmpi .eq 128#32 0#32) 1#32 128#32))) k0_pay15

/-- That column number is the lane modulo the row length. -/
theorem col2_at (l : Fin 4352) : col2 (ix2 0 l) = BitVec.ofNat 32 (l.val % 128) := by
  pointwise [col2, k0_pay15, k0_pay16]
  revert l
  decide +kernel

/-- The hidden tile shifted by one column, the column that falls in set to zero. -/
def sh2 (v : FVec Ideal S64x4352 .f32) (dx : Fin 3) : FVec Ideal S64x4352 .f32 :=
  match dx with
  | 0 => select (broadcastTo S64x4352 (shapeCast S1x4352 (cmpi .eq col2 (broadcast S1x4352 0#32)) shapeCasts_S1x4352_S1x4352) broadcasts_S1x4352_S64x4352)
      (broadcast S64x4352 (Scalar.ofBits .f32 0x00000000#32)) (dynamicRotate 1 1#32 none v rotates_S64x4352_d1)
  | 1 => v
  | 2 => select (broadcastTo S64x4352 (shapeCast S1x4352 (cmpi .eq col2 (broadcast S1x4352 127#32)) shapeCasts_S1x4352_S1x4352) broadcasts_S1x4352_S64x4352)
      (broadcast S64x4352 (Scalar.ofBits .f32 0x00000000#32)) (dynamicRotate 1 4351#32 none v rotates_S64x4352_d1)

/-- The three row shifts of a shifted hidden tile, one under the other. -/
def rhs2 (s : FVec Ideal S64x4352 .f32) : FVec Ideal S192x4096 .f32 :=
  concatenate S192x4096 0 [⟨S64x4096, extractStridedSlice S64x4096 ![0, 0] s slices_S64x4352_o0_0_S64x4096⟩,
    ⟨S64x4096, extractStridedSlice S64x4096 ![0, 128] s slices_S64x4352_o0_128_S64x4096⟩,
    ⟨S64x4096, extractStridedSlice S64x4096 ![0, 256] s slices_S64x4352_o0_256_S64x4096⟩] concatenates_S64x4096_S64x4096_S64x4096_S192x4096_d0

/-- The three taps' products of the last convolution, added. -/
def dots2 (w : FVec Ideal S3x288x192 .f32) (a0 a1 a2 : FVec Ideal S192x4096 .f32) : FVec Ideal S288x4096 .f32 :=
  addf (addf
    (matmul dot_S288x192_S192x4096_S288x4096_1_0_0_1_n_n none (shapeCast S288x192 (extractStridedSlice S1x288x192 ![0, 0, 0] (k0_pay14 (F := Ideal) w) slices_S3x288x192_o0_0_0_S1x288x192) shapeCasts_S1x288x192_S288x192) a0 (constant S288x4096 .f32 0x00000000#32))
    (matmul dot_S288x192_S192x4096_S288x4096_1_0_0_1_n_n none (shapeCast S288x192 (extractStridedSlice S1x288x192 ![1, 0, 0] (k0_pay14 (F := Ideal) w) slices_S3x288x192_o1_0_0_S1x288x192) shapeCasts_S1x288x192_S288x192) a1 (constant S288x4096 .f32 0x00000000#32)))
    (matmul dot_S288x192_S192x4096_S288x4096_1_0_0_1_n_n none (shapeCast S288x192 (extractStridedSlice S1x288x192 ![2, 0, 0] (k0_pay14 (F := Ideal) w) slices_S3x288x192_o2_0_0_S1x288x192) shapeCasts_S1x288x192_S288x192) a2 (constant S288x4096 .f32 0x00000000#32))

/-- The kernel's last convolution in these pieces. -/
theorem pay17_eq (v : FVec Ideal S64x4352 .f32) (w : FVec Ideal S3x288x192 .f32) :
    k0_pay17 (F := Ideal) v (k0_pay14 w) (Scalar.select (Scalar.cmpi .eq 128#32 0#32) 1#32 128#32) k0_pay15 k0_pay16 0#32
      = dots2 w (rhs2 (sh2 v 0)) (rhs2 (sh2 v 1)) (rhs2 (sh2 v 2)) := rfl

/-- A row of the stacked shifts: entry `64 dy + o` is channel `o`, `dy` rows further. -/
theorem rhs2_at (s : FVec Ideal S64x4352 .f32) (dy : Fin 3) (c : Fin 64) (l : Fin 4096) :
    rhs2 s (ix2 (⟨dy.val * 64 + c.val, by omega⟩ : Fin 192) l) = s (ix2 c (⟨dy.val * 128 + l.val, by omega⟩ : Fin 4352)) := by
  pointwise [rhs2]
  fin_cases dy
  · rw [dif_pos (by show 0 * 64 + c.val < 64; omega)]
    congr 1; idx_ext <;> simp
  · rw [dif_neg (by show ¬ 1 * 64 + c.val < 64; omega), dif_pos (by show 1 * 64 + c.val - 64 < 64; omega)]
    congr 1; idx_ext <;> simp
  · rw [dif_neg (by show ¬ 2 * 64 + c.val < 64; omega), dif_neg (by show ¬ 2 * 64 + c.val - 64 < 64; omega)]
    congr 1; idx_ext <;> simp <;> omega

/-- The shifted hidden tile at a lane, for a tile that holds `G` at its rows and columns. -/
theorem sh2_at (G : Fin 64 → ℕ → ℕ → EReal) (R : ℕ) (h0 : ∀ c r, G c r 0 = 0) (h1 : ∀ c r, G c r 129 = 0)
    (v : FVec Ideal S64x4352 .f32) (hv : ∀ (c : Fin 64) (l : Fin 4352), v (ix2 c l) = G c (R + l.val / 128) (l.val % 128 + 1))
    (dx : Fin 3) (c : Fin 64) (l : Fin 4352) :
    sh2 v dx (ix2 c l) = G c (R + l.val / 128) (l.val % 128 + dx.val) := by
  fin_cases dx
  · show sh2 v 0 (ix2 c l) = G c (R + l.val / 128) (l.val % 128 + 0)
    pointwise [sh2, col2_at, hv]
    rw [select_eq_word _ 0 (by omega) (by omega)]
    by_cases e : l.val % 128 = 0
    · rw [if_pos e, e, h0]
    · rw [if_neg e]
      have e1 : (l.val + 4352 - 1) % 4352 = l.val - 1 := by omega
      rw [e1]
      congr 1 <;> omega
  · exact hv c l
  · show sh2 v 2 (ix2 c l) = G c (R + l.val / 128) (l.val % 128 + 2)
    pointwise [sh2, col2_at, hv]
    rw [select_eq_word _ 127 (by omega) (by omega)]
    by_cases e : l.val % 128 = 127
    · rw [if_pos e, e, h1]
    · rw [if_neg e]
      have e1 : (l.val + 4352 - 4351) % 4352 = l.val + 1 := by omega
      rw [e1]
      congr 1 <;> omega

/-- The taps' products at a lane: three sums over the stacked rows. -/
theorem dots2_at (w : FVec Ideal S3x288x192 .f32) (a0 a1 a2 : FVec Ideal S192x4096 .f32) (o : Fin 288) (l : Fin 4096) :
    dots2 w a0 a1 a2 (ix2 o l) = (∑ k : Fin 192, w (ix3 0 o k) * a0 (ix2 k l)) + (∑ k : Fin 192, w (ix3 1 o k) * a1 (ix2 k l))
      + ∑ k : Fin 192, w (ix3 2 o k) * a2 (ix2 k l) := by
  pointwise [dots2, k0_pay14]

/-- The first convolution of a tile at a lane, tap by tap: the tile holds `G`, row `R` of the padded image first. -/
theorem conv1_at (G : Fin 16 → ℕ → ℕ → EReal) (R : ℕ) (h0 : ∀ c r, G c r 0 = 0) (h1 : ∀ c r, G c r 129 = 0)
    (v : FVec Ideal S16x4608 .f32) (hv : ∀ (c : Fin 16) (l : Fin 4608), v (ix2 c l) = G c (R + l.val / 128) (l.val % 128 + 1))
    (w : FVec Ideal S3x64x48 .f32) (o : Fin 64) (l : Fin 4352) :
    dots1 w (rhs1 (sh1 v 0)) (rhs1 (sh1 v 1)) (rhs1 (sh1 v 2)) (ix2 o l)
      = ∑ dx : Fin 3, ∑ dy : Fin 3, ∑ c : Fin 16, w (ix3 dx o (⟨dy.val * 16 + c.val, by omega⟩ : Fin 48)) * G c (R + l.val / 128 + dy.val) (l.val % 128 + dx.val) := by
  have key : ∀ dx : Fin 3, (∑ k : Fin 48, w (ix3 dx o k) * rhs1 (sh1 v dx) (ix2 k l))
      = ∑ dy : Fin 3, ∑ c : Fin 16, w (ix3 dx o (⟨dy.val * 16 + c.val, by omega⟩ : Fin 48)) * G c (R + l.val / 128 + dy.val) (l.val % 128 + dx.val) := by
    intro dx
    rw [Fin.sum_univ_tiles 3 16 rfl]
    refine Finset.sum_congr rfl fun dy _ => Finset.sum_congr rfl fun c _ => ?_
    rw [rhs1_at, sh1_at G R h0 h1 v hv]
    congr 2 <;> simp only <;> omega
  rw [dots1_at, Fin.sum_univ_three, ← key 0, ← key 1, ← key 2]

/-- The last convolution of a tile at a lane, tap by tap: the tile holds `G`, row `R` of the padded image first. -/
theorem conv2_at (G : Fin 64 → ℕ → ℕ → EReal) (R : ℕ) (h0 : ∀ c r, G c r 0 = 0) (h1 : ∀ c r, G c r 129 = 0)
    (v : FVec Ideal S64x4352 .f32) (hv : ∀ (c : Fin 64) (l : Fin 4352), v (ix2 c l) = G c (R + l.val / 128) (l.val % 128 + 1))
    (w : FVec Ideal S3x288x192 .f32) (o : Fin 288) (l : Fin 4096) :
    dots2 w (rhs2 (sh2 v 0)) (rhs2 (sh2 v 1)) (rhs2 (sh2 v 2)) (ix2 o l)
      = ∑ dx : Fin 3, ∑ dy : Fin 3, ∑ c : Fin 64, w (ix3 dx o (⟨dy.val * 64 + c.val, by omega⟩ : Fin 192)) * G c (R + l.val / 128 + dy.val) (l.val % 128 + dx.val) := by
  have key : ∀ dx : Fin 3, (∑ k : Fin 192, w (ix3 dx o k) * rhs2 (sh2 v dx) (ix2 k l))
      = ∑ dy : Fin 3, ∑ c : Fin 64, w (ix3 dx o (⟨dy.val * 64 + c.val, by omega⟩ : Fin 192)) * G c (R + l.val / 128 + dy.val) (l.val % 128 + dx.val) := by
    intro dx
    rw [Fin.sum_univ_tiles 3 64 rfl]
    refine Finset.sum_congr rfl fun dy _ => Finset.sum_congr rfl fun c _ => ?_
    rw [rhs2_at, sh2_at G R h0 h1 v hv]
    congr 2 <;> simp only <;> omega
  rw [dots2_at, Fin.sum_univ_three, ← key 0, ← key 1, ← key 2]

end Cert.KernelIdeal.Body
end
-- ==== Proof.Spline.lean ====
module

public import Idealize.ShloMosaic.Lib.Pointwise
public import Idealize.ShloMosaic.Lib.IdealHost
public import Idealize.ShloMosaic.PureOps.Ideal.Laws

@[expose] public section

noncomputable section

namespace Cert.Spline

open Idealize.ShloMosaic

/-- The literal two. -/
theorem lit_two : Ideal.ofBits .f32 0x40000000#32 = ((2 : ℝ) : EReal) := by
  simp [Ideal.ofBits, Ideal.ieee, -EReal.coe_mul]
  norm_num

/-- The literal three. -/
theorem lit_three : Ideal.ofBits .f32 0x40400000#32 = ((3 : ℝ) : EReal) := by
  simp [Ideal.ofBits, Ideal.ieee, -EReal.coe_mul]
  norm_num

/-- The literal minus three. -/
theorem lit_neg_three : Ideal.ofBits .f32 0xC0400000#32 = ((-3 : ℝ) : EReal) := by
  simp [Ideal.ofBits, Ideal.ieee, -EReal.coe_mul, -EReal.coe_neg]
  norm_num

/-- The literal six. -/
theorem lit_six : Ideal.ofBits .f32 0x40C00000#32 = ((6 : ℝ) : EReal) := by
  simp [Ideal.ofBits, Ideal.ieee, -EReal.coe_mul]
  norm_num

/-- The literal eight. -/
theorem lit_eight : Ideal.ofBits .f32 0x41000000#32 = ((8 : ℝ) : EReal) := by
  simp [Ideal.ofBits, Ideal.ieee, -EReal.coe_mul]
  norm_num

/-- The literal one thousand. -/
theorem lit_thousand : Ideal.ofBits .f32 0x447A0000#32 = ((1000 : ℝ) : EReal) := by
  simp [Ideal.ofBits, Ideal.ieee, -EReal.coe_mul]
  norm_num

/-- The literal minus infinity. -/
theorem lit_bot : Ideal.ofBits .f32 0xFF800000#32 = ⊥ := by
  simp [Ideal.ofBits, Ideal.ieee]

/-- A sum of reals is the sum of their extended reals. -/
theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- The greatest of the eight raw bin parameters. -/
def mx (u : Fin 8 → EReal) : EReal := Finset.univ.fold max ⊥ u

/-- The exponential of a raw bin parameter, the greatest taken off. -/
def ex (u : Fin 8 → EReal) (k : Fin 8) : EReal := Ideal.exp (u k - mx u)

/-- The share of a bin: the softmax of the eight raw parameters. -/
def pr (u : Fin 8 → EReal) (k : Fin 8) : EReal := Ideal.div (ex u k) (∑ j, ex u j)

/-- The greatest of eight is at least each. -/
theorem le_mx (u : Fin 8 → EReal) (k : Fin 8) : u k ≤ mx u := by
  unfold mx
  exact (Finset.le_fold_max _).2 (Or.inr ⟨k, Finset.mem_univ _, le_rfl⟩)

/-- The greatest of eight is one of them. -/
theorem mx_attained (u : Fin 8 → EReal) : ∃ k, u k = mx u := by
  have h := Finset.exists_mem_eq_sup' (s := (Finset.univ : Finset (Fin 8))) ⟨0, Finset.mem_univ _⟩ u
  obtain ⟨k, -, hk⟩ := h
  refine ⟨k, le_antisymm (le_mx u k) ?_⟩
  rw [← hk]
  unfold mx
  refine (Finset.fold_max_le _).2 ⟨bot_le, fun j _ => Finset.le_sup' u (Finset.mem_univ j)⟩

/-- The shares are all real, or they are all the junk value: a greatest parameter that is infinite leaves no share. -/
theorem pr_cases (u : Fin 8 → EReal) : (∃ r : Fin 8 → ℝ, ∀ k, pr u k = (r k : EReal)) ∨ (∀ k, pr u k = ⊥) := by
  by_cases hb : mx u = ⊥ ∨ mx u = ⊤
  · right
    have hex : ∀ k, ex u k = 0 := by
      intro k
      have hs : u k - mx u = ⊥ := by
        rcases hb with h | h
        · have hk : u k = ⊥ := le_bot_iff.1 (h ▸ le_mx u k)
          rw [hk, sub_eq_add_neg, EReal.bot_add]
        · rw [h, sub_eq_add_neg, EReal.neg_top, EReal.add_bot]
      rw [ex, hs]; rfl
    intro k
    simp [pr, hex, Ideal.div]
  · left
    obtain ⟨M, hM⟩ : ∃ M : ℝ, mx u = M := by
      push Not at hb
      exact ⟨(mx u).toReal, (EReal.coe_toReal hb.2 hb.1).symm⟩
    have hreal : ∀ k, ∃ e : ℝ, 0 ≤ e ∧ ex u k = e := by
      intro k
      have hle := le_mx u k
      rw [hM] at hle
      induction h : u k using EReal.rec with
      | bot => refine ⟨0, le_rfl, ?_⟩; rw [ex, h, sub_eq_add_neg, EReal.bot_add]; rfl
      | coe r => refine ⟨Real.exp (r - M), (Real.exp_pos _).le, ?_⟩; rw [ex, h, hM, ← EReal.coe_sub]; rfl
      | top => rw [h] at hle; exact absurd hle (by simp)
    choose e he0 he using hreal
    have hsum : (∑ j, ex u j) = ((∑ j, e j : ℝ) : EReal) := by
      simp only [he]; push_cast; rfl
    have hpos : (0 : ℝ) < ∑ j, e j := by
      obtain ⟨k, hk⟩ := mx_attained u
      have h1 : e k = 1 := by
        have : ex u k = ((1 : ℝ) : EReal) := by
          rw [ex, hk, hM, ← EReal.coe_sub, sub_self, Ideal.exp_coe, Real.exp_zero]
        rw [he] at this
        exact_mod_cast this
      have := Finset.single_le_sum (f := e) (fun j _ => he0 j) (Finset.mem_univ k)
      linarith
    refine ⟨fun k => e k * (1 / ∑ j, e j), fun k => ?_⟩
    rw [pr, hsum, he, Ideal.div_coe hpos.ne', EReal.coe_mul]

/-- The edges of the bins: −3, then the running sums of the bins' sizes, then 3. -/
def edg (u : Fin 8 → EReal) (n : ℕ) : EReal :=
  if n = 0 then ((-3 : ℝ) : EReal) else if 8 ≤ n then ((3 : ℝ) : EReal)
  else (((-3 : ℝ) : EReal) + ((3 / 500 : ℝ) : EReal) * ((n : ℝ) : EReal)) + ((744 / 125 : ℝ) : EReal) * ∑ j : Fin 8, if j.val < n then pr u j else 0

/-- The inner edges as one scaled running sum of sizes. -/
theorem edg_ref (u : Fin 8 → EReal) (n : ℕ) (h0 : 0 < n) (h8 : n < 8) :
    ((6 : ℝ) : EReal) * (∑ j : Fin n, (((1 / 1000 : ℝ) : EReal) + ((992 / 1000 : ℝ) : EReal) * pr u ⟨j.val, by omega⟩)) + ((-3 : ℝ) : EReal) = edg u n := by
  rw [edg, if_neg (by omega), if_neg (by omega)]
  rcases pr_cases u with ⟨r, hr⟩ | hb
  · have e1 : ∀ j : Fin 8, (if j.val < n then pr u j else 0) = ((if j.val < n then r j else 0 : ℝ) : EReal) := by
      intro j; split <;> simp [hr]
    simp only [e1]
    simp only [hr]
    have e2 : (∑ j : Fin n, (((1 / 1000 : ℝ) : EReal) + ((992 / 1000 : ℝ) : EReal) * ((r ⟨j.val, by omega⟩ : ℝ) : EReal)))
        = ((∑ j : Fin n, ((1 / 1000 : ℝ) + (992 / 1000) * r ⟨j.val, by omega⟩) : ℝ) : EReal) := by
      rw [← sum_coe]
      refine Finset.sum_congr rfl fun j _ => ?_
      rw [EReal.coe_add, EReal.coe_mul]
    rw [e2, sum_coe]
    norm_cast
    have e3 : (∑ j : Fin 8, if j.val < n then r j else 0) = ∑ j : Fin n, r ⟨j.val, by omega⟩ := by
      interval_cases n <;> simp [Fin.sum_univ_succ] <;> ring
    rw [e3, Finset.sum_add_distrib, ← Finset.mul_sum]
    simp
    ring
  · have e1 : (∑ j : Fin 8, if j.val < n then pr u j else 0) = ⊥ := by
      rw [← Finset.add_sum_erase _ _ (Finset.mem_univ (0 : Fin 8)), if_pos (by simpa using h0), hb, EReal.bot_add]
    have e2 : (∑ j : Fin n, (((1 / 1000 : ℝ) : EReal) + ((992 / 1000 : ℝ) : EReal) * pr u ⟨j.val, by omega⟩)) = ⊥ := by
      rw [← Finset.add_sum_erase _ _ (Finset.mem_univ (⟨0, h0⟩ : Fin n)), hb, EReal.coe_mul_bot_of_pos (by norm_num), EReal.add_bot, EReal.bot_add]
    rw [e1, e2, EReal.coe_mul_bot_of_pos (by norm_num), EReal.coe_mul_bot_of_pos (by norm_num), EReal.add_bot, EReal.bot_add]

/-- The softplus of an extended real. -/
def sp (x : EReal) : EReal := max x 0 + Ideal.log1p (Ideal.exp (-(max x (-x))))

/-- The boundary parameter whose derivative is one. -/
def cst : EReal := Ideal.log (Ideal.exp (1 - ((1 / 1000 : ℝ) : EReal)) - 1)

/-- The softplus of a real number is the logarithm of its exponential plus one. -/
theorem sp_coe (c : ℝ) : sp (c : EReal) = ((Real.log (Real.exp c + 1) : ℝ) : EReal) := by
  have h1 : sp (c : EReal) = ((max c 0 + Real.log (1 + Real.exp (-|c|)) : ℝ) : EReal) := by
    have hp : ¬ (1 + Real.exp (-|c|)) ≤ 0 := not_le.2 (by positivity)
    have hm : max (c : EReal) (-(c : EReal)) = ((|c| : ℝ) : EReal) := by
      rw [← EReal.coe_neg, abs_eq_max_neg]; exact (EReal.coe_strictMono.monotone.map_max).symm
    have hz : max (c : EReal) 0 = ((max c 0 : ℝ) : EReal) := by
      rw [← EReal.coe_zero]; exact (EReal.coe_strictMono.monotone.map_max).symm
    rw [sp, hm, hz, ← EReal.coe_neg, Ideal.exp_coe, Ideal.log1p, ← EReal.coe_one, ← EReal.coe_add, Ideal.log_coe, if_neg hp, ← EReal.coe_add]
  rw [h1]
  congr 1
  rcases le_total 0 c with h | h
  · rw [max_eq_left h, abs_of_nonneg h, show Real.exp c + 1 = Real.exp c * (1 + Real.exp (-c)) by
      rw [mul_add, ← Real.exp_add]; simp, Real.log_mul (Real.exp_pos _).ne' (by positivity), Real.log_exp]
  · rw [max_eq_right h, abs_of_nonpos h, neg_neg, zero_add, add_comm]

/-- The boundary derivative is one. -/
theorem cst_one : ((1 / 1000 : ℝ) : EReal) + sp cst = 1 := by
  have hp : (0 : ℝ) < Real.exp (999 / 1000) - 1 := by
    have := Real.add_one_lt_exp (x := (999 / 1000 : ℝ)) (by norm_num)
    linarith
  have h : cst = ((Real.log (Real.exp (999 / 1000) - 1) : ℝ) : EReal) := by
    rw [cst, ← EReal.coe_one, ← EReal.coe_sub, Ideal.exp_coe, ← EReal.coe_sub, Ideal.log_coe]
    rw [show (1 : ℝ) - 1 / 1000 = 999 / 1000 by norm_num, if_neg (not_le.2 hp)]
  rw [h, sp_coe, Real.exp_log hp, sub_add_cancel, Real.log_exp, ← EReal.coe_add]
  norm_num

/-- The derivatives at the edges: one at both ends, the softplus of the parameter plus a thousandth between. -/
def der (d : ℕ → EReal) (n : ℕ) : EReal := if n = 0 then 1 else if 8 ≤ n then 1 else ((1 / 1000 : ℝ) : EReal) + sp (d (n - 1))

/-- The bin a point lies in: the number of the edges after the first that it has reached, the last bin at most. -/
def bin (E : ℕ → EReal) (x : EReal) : ℕ := min 7 (∑ k : Fin 8, if E (k.val + 1) ≤ x then 1 else 0)

/-- There are eight bins. -/
theorem bin_lt (E : ℕ → EReal) (x : EReal) : bin E x < 8 := by unfold bin; omega

/-- The point cut to the spline's interval. -/
def clp (x : EReal) : EReal := min ((3 : ℝ) : EReal) (max ((-3 : ℝ) : EReal) x)

/-- The place of a point in its bin. -/
def th (E : ℕ → EReal) (x : EReal) : EReal := Ideal.div (clp x - E (bin E (clp x))) (E (bin E (clp x) + 1) - E (bin E (clp x)))

/-- The mean slope of a bin. -/
def slope (E F : ℕ → EReal) (n : ℕ) : EReal := Ideal.div (F (n + 1) - F n) (E (n + 1) - E n)

/-- The spline's denominator. -/
def den (E F D : ℕ → EReal) (x : EReal) : EReal :=
  let n := bin E (clp x)
  slope E F n + (D n + D (n + 1) - ((2 : ℝ) : EReal) * slope E F n) * (th E x * (1 - th E x))

/-- The spline's value. -/
def val (E F D : ℕ → EReal) (x : EReal) : EReal :=
  let n := bin E (clp x)
  F n + Ideal.div ((F (n + 1) - F n) * (slope E F n * (th E x * th E x) + D n * (th E x * (1 - th E x)))) (den E F D x)

/-- The numerator of the spline's derivative. -/
def dnum (E F D : ℕ → EReal) (x : EReal) : EReal :=
  let n := bin E (clp x)
  (slope E F n * slope E F n) * (D (n + 1) * (th E x * th E x) + ((2 : ℝ) : EReal) * slope E F n * (th E x * (1 - th E x))
    + D n * ((1 - th E x) * (1 - th E x)))

/-- Whether a point lies in the spline's interval. -/
def inside (x : EReal) : Prop := ((-3 : ℝ) : EReal) ≤ x ∧ x ≤ ((3 : ℝ) : EReal)

open Classical in
/-- The transformed point: the spline inside its interval, the point itself outside. -/
def out (E F D : ℕ → EReal) (x : EReal) : EReal := if inside x then val E F D x else x

open Classical in
/-- The logarithm of the derivative, zero outside the interval. -/
def lad (E F D : ℕ → EReal) (x : EReal) : EReal := if inside x then Ideal.log (dnum E F D x) - ((2 : ℝ) : EReal) * Ideal.log (den E F D x) else 0

/-- A sum against a one-hot row picks the entry. -/
theorem sum_pick (v : ℕ → EReal) (n : ℕ) (h : n < 8) : (∑ k : Fin 8, (if n = k.val then (1 : EReal) else 0) * v k.val) = v n := by
  rw [Finset.sum_eq_single (⟨n, h⟩ : Fin 8)]
  · simp
  · intro b _ hb
    rw [if_neg (fun e => hb (Fin.ext e.symm)), zero_mul]
  · simp

/-- A sum against a one-hot row, the entries counted from one, with the entry zero added where none is picked. -/
theorem sum_pick_left (v : ℕ → EReal) (n : ℕ) (h : n < 8) :
    (∑ k : Fin 8, (if n = k.val + 1 then (1 : EReal) else 0) * v (k.val + 1)) + (if n = 0 then v 0 else 0) = v n := by
  rcases Nat.eq_zero_or_pos n with rfl | hp
  · simp
  · rw [Finset.sum_eq_single (⟨n - 1, by omega⟩ : Fin 8)]
    · rw [if_pos (by simp only; omega), if_neg (by omega), one_mul, add_zero]
      congr 1; simp only; omega
    · intro b _ hb
      rw [if_neg (fun e => hb (Fin.ext (by simp only; omega))), zero_mul]
    · simp

end Cert.Spline
end
-- ==== Proof.Mats.lean ====
module

public import proofs.«01_k».proof.Proof.Conv1
public import proofs.«01_k».proof.Proof.Spline
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

open Cert.Spline

/-- The kernel's block number of a column of its square matrices. -/
def colblk : IVec S192x192 32 :=
  select (andi (cmpi .ne (subi (extui 32 (cmpi .sgt (iota .tc S192x192 32 [1] iota_S192x192_d1_w32) (broadcast S192x192 0#32)) natLt_1_32) (extui 32 (cmpi .slt (iota .tc S192x192 32 [1] iota_S192x192_d1_w32) (broadcast S192x192 0#32)) natLt_1_32)) (broadcast S192x192 (Scalar.subi (Scalar.extui (Scalar.cmpi .sgt 8#32 0#32)) (Scalar.extui (Scalar.cmpi .slt 8#32 0#32))))) (cmpi .ne (remsi (iota .tc S192x192 32 [1] iota_S192x192_d1_w32) (broadcast S192x192 8#32)) (broadcast S192x192 0#32))) (subi k0_pay22 (broadcast S192x192 1#32)) k0_pay22

/-- The matrix of the bins that share a block: one there, zero elsewhere. -/
def mblk : FVec Ideal S192x192 .f32 := sitofp .f32 (extui 32 (cmpi .eq k0_pay21 colblk) natLt_1_32)

/-- The matrix of the bins of a block up to a bin. -/
def mtri : FVec Ideal S192x192 .f32 := sitofp .f32 (extui 32 (andi (cmpi .eq k0_pay21 colblk) (cmpi .sge (iota .tc S192x192 32 [0] iota_S192x192_d0_w32) (iota .tc S192x192 32 [1] iota_S192x192_d1_w32))) natLt_1_32)

/-- The block number of a column is its eighth. -/
theorem colblk_at (r k : Fin 192) : colblk (ix2 r k) = BitVec.ofNat 32 (k.val / 8) := by
  pointwise [colblk, k0_pay22]
  revert k
  decide +kernel

/-- The block number of a row is its eighth. -/
theorem rowblk_at (r k : Fin 192) : k0_pay21 (ix2 r k) = BitVec.ofNat 32 (r.val / 8) := by
  pointwise [k0_pay21]
  revert r
  decide +kernel

/-- The word zero as a float is zero. -/
theorem zero_word : FloatOps.sitofp (F := Ideal) .f32 0#32 = 0 := by
  show (((0#32 : BitVec 32).toInt : ℝ) : EReal) = 0
  simp

/-- The word one as a float is one. -/
theorem one_word : FloatOps.sitofp (F := Ideal) .f32 1#32 = 1 := by
  show (((1#32 : BitVec 32).toInt : ℝ) : EReal) = 1
  simp

/-- An entry of the block matrix is one where row and column share a block. -/
theorem mblk_at (r k : Fin 192) : mblk (ix2 r k) = if r.val / 8 = k.val / 8 then 1 else 0 := by
  pointwise [mblk, colblk_at, rowblk_at]
  refine Eq.trans (congrArg (FloatOps.sitofp (F := Ideal) .f32) (?_ : _ = if r.val / 8 = k.val / 8 then 1#32 else 0#32)) ?_
  · revert r k
    decide +kernel
  · split
    · exact one_word
    · exact zero_word

/-- An entry of the triangular matrix is one where row and column share a block and the column is not after the row. -/
theorem mtri_at (r k : Fin 192) : mtri (ix2 r k) = if r.val / 8 = k.val / 8 ∧ k.val ≤ r.val then 1 else 0 := by
  pointwise [mtri, colblk_at, rowblk_at]
  refine Eq.trans (congrArg (FloatOps.sitofp (F := Ideal) .f32) (?_ : _ = if r.val / 8 = k.val / 8 ∧ k.val ≤ r.val then 1#32 else 0#32)) ?_
  · revert r k
    decide +kernel
  · split
    · exact one_word
    · exact zero_word

/-- The running sums of the shares, from the two matrices. -/
theorem pay23_eq (v : FVec Ideal S192x4096 .f32) :
    k0_pay23 (F := Ideal) v (iota .tc S192x192 32 [0] iota_S192x192_d0_w32) (iota .tc S192x192 32 [1] iota_S192x192_d1_w32) k0_pay21 8#32 k0_pay22
      = matmul dot_S192x192_S192x4096_S192x4096_1_0_0_1_n_n none mtri (divf v (matmul dot_S192x192_S192x4096_S192x4096_1_0_0_1_n_n none mblk v (constant S192x4096 .f32 0x00000000#32))) (constant S192x4096 .f32 0x00000000#32) := rfl

/-- A sum over the rows against a row of the block matrix is the sum over the block. -/
theorem blk_sum (x : Fin 192 → EReal) (g : Fin 24) (k : Fin 8) :
    (∑ r : Fin 192, (if (g.val * 8 + k.val) / 8 = r.val / 8 then (1 : EReal) else 0) * x r) = ∑ j : Fin 8, x ⟨g.val * 8 + j.val, by omega⟩ := by
  rw [Fin.sum_univ_tiles 24 8 rfl, Finset.sum_eq_single g]
  · refine Finset.sum_congr rfl fun j _ => ?_
    rw [if_pos (by simp only; omega), one_mul]
  · intro h _ hn
    refine Finset.sum_eq_zero fun j _ => ?_
    rw [if_neg (fun e => hn (Fin.ext (by simp only at e; omega))), zero_mul]
  · simp

/-- A sum over the rows against a row of the triangular matrix is the sum over the block up to the bin. -/
theorem tri_sum (x : Fin 192 → EReal) (g : Fin 24) (k : Fin 8) :
    (∑ r : Fin 192, (if (g.val * 8 + k.val) / 8 = r.val / 8 ∧ r.val ≤ g.val * 8 + k.val then (1 : EReal) else 0) * x r)
      = ∑ j : Fin 8, if j.val < k.val + 1 then x ⟨g.val * 8 + j.val, by omega⟩ else 0 := by
  rw [Fin.sum_univ_tiles 24 8 rfl, Finset.sum_eq_single g]
  · refine Finset.sum_congr rfl fun j _ => ?_
    by_cases h : j.val < k.val + 1
    · rw [if_pos (by simp only; omega), if_pos h, one_mul]
    · rw [if_neg (by simp only; omega), if_neg h, zero_mul]
  · intro h _ hn
    refine Finset.sum_eq_zero fun j _ => ?_
    rw [if_neg (fun e => hn (Fin.ext (by simp only at e; omega))), zero_mul]
  · simp

end Cert.KernelIdeal.Body
end
-- ==== Proof.Params.lean ====
module

public import proofs.«01_k».proof.Proof.Mats
public import proofs.«01_k».proof.Proof.Spline
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

open Cert.Spline

/-- The named constant is a thousandth. -/
theorem named_milli : Named.named (F := Ideal) (φ := .f32) κ "milli" 0x3A83126F#32 = (((1 / 1000 : ℝ)) : EReal) :=
  IdealRules.named_const.ideal_named_scalar _ _ _ _ rfl

/-- The named constant is six thousandths. -/
theorem named_bin_min : Named.named (F := Ideal) (φ := .f32) κ "bin_min" 0x3BC49BA6#32 = (((3 / 500 : ℝ)) : EReal) :=
  IdealRules.named_const.ideal_named_scalar _ _ _ _ rfl

/-- The named constant is 5.952. -/
theorem named_bin_scale : Named.named (F := Ideal) (φ := .f32) κ "bin_scale" 0x40BE76C9#32 = (((744 / 125 : ℝ)) : EReal) :=
  IdealRules.named_const.ideal_named_scalar _ _ _ _ rfl

/-- A parameter row: the convolution and its bias. -/
theorem pay18_at (v : FVec Ideal S288x4096 .f32) (b : FVec Ideal S288x1 .f32) (r : Fin 288) (l : Fin 4096) :
    k0_pay18 (F := Ideal) v b (ix2 r l) = v (ix2 r l) + b (ix2 r 0) := by
  pointwise [k0_pay18]

/-- The derivative parameters are the rows from 192. -/
theorem pay19_at (v : FVec Ideal S288x4096 .f32) (b : FVec Ideal S288x1 .f32) (c : Fin 12) (k : Fin 8) (l : Fin 4096) :
    k0_pay19 (F := Ideal) v b (ix3 c k l) = k0_pay18 (F := Ideal) v b (ix2 (⟨192 + (c.val * 8 + k.val), by omega⟩ : Fin 288) l) := by
  pointwise [k0_pay19]

/-- The exponentials of one half of the bins: eight raw rows, the greatest taken off. -/
def eblk (u : FVec Ideal S96x4096 .f32) : FVec Ideal S96x4096 .f32 :=
  shapeCast S96x4096 (exp (subf (shapeCast S12x8x4096 u shapeCasts_S96x4096_S12x8x4096)
    (broadcastTo S12x8x4096 (shapeCast S12x1x4096 (multiReduction .maximumf [1] S12x4096 (shapeCast S12x8x4096 u shapeCasts_S96x4096_S12x8x4096) 0xFF800000#32 reduces_S12x8x4096_S12x4096 (.inl rfl) rfl) shapeCasts_S12x4096_S12x1x4096) broadcasts_S12x1x4096_S12x8x4096))) shapeCasts_S12x8x4096_S96x4096

/-- The exponentials are those of the widths over those of the heights. -/
theorem pay20_eq (v : FVec Ideal S288x4096 .f32) (b : FVec Ideal S288x1 .f32) :
    k0_pay20 (F := Ideal) v b = concatenate S192x4096 0 [⟨S96x4096, eblk (extractStridedSlice S96x4096 ![0, 0] (k0_pay18 v b) slices_S288x4096_o0_0_S96x4096)⟩,
      ⟨S96x4096, eblk (extractStridedSlice S96x4096 ![96, 0] (k0_pay18 v b) slices_S288x4096_o96_0_S96x4096)⟩] concatenates_S96x4096_S96x4096_S192x4096_d0 := rfl

/-- An exponential is that of its bin. -/
theorem eblk_at (u : FVec Ideal S96x4096 .f32) (c : Fin 12) (k : Fin 8) (l : Fin 4096) :
    eblk u (ix2 (⟨c.val * 8 + k.val, by omega⟩ : Fin 96) l) = ex (fun j => u (ix2 (⟨c.val * 8 + j.val, by omega⟩ : Fin 96) l)) k := by
  pointwise [eblk]
  rw [lit_bot]
  rfl

/-- The exponentials of the widths and heights: block `g` holds the eight bins of a channel, `g < 12` the widths. -/
theorem pay20_at (v : FVec Ideal S288x4096 .f32) (b : FVec Ideal S288x1 .f32) (g : Fin 24) (k : Fin 8) (l : Fin 4096) :
    k0_pay20 (F := Ideal) v b (ix2 (⟨g.val * 8 + k.val, by omega⟩ : Fin 192) l)
      = ex (fun j => k0_pay18 (F := Ideal) v b (ix2 (⟨g.val * 8 + j.val, by omega⟩ : Fin 288) l)) k := by
  rw [pay20_eq]
  by_cases h : g.val < 12
  · pointwise []
    rw [dif_pos (by show g.val * 8 + k.val < 96; omega)]
    refine Eq.trans (eblk_at _ ⟨g.val, h⟩ k l) ?_
    congr 1; funext j
    pointwise []
  · pointwise []
    rw [dif_neg (by show ¬ g.val * 8 + k.val < 96; omega)]
    refine Eq.trans (Eq.trans (congrArg (eblk _) ?_) (eblk_at _ ⟨g.val - 12, by omega⟩ k l)) ?_
    · idx_ext <;> simp <;> omega
    congr 1; funext j
    pointwise []
    congr 1
    idx_ext <;> simp <;> omega

/-- The running sum of the shares of a block, for rows that hold the exponentials of raw parameters. -/
theorem pay23_at (v : FVec Ideal S192x4096 .f32) (U : Fin 8 → EReal) (g : Fin 24) (k : Fin 8) (l : Fin 4096)
    (hv : ∀ j : Fin 8, v (ix2 (⟨g.val * 8 + j.val, by omega⟩ : Fin 192) l) = ex U j) :
    k0_pay23 (F := Ideal) v (iota .tc S192x192 32 [0] iota_S192x192_d0_w32) (iota .tc S192x192 32 [1] iota_S192x192_d1_w32) k0_pay21 8#32 k0_pay22
        (ix2 (⟨g.val * 8 + k.val, by omega⟩ : Fin 192) l)
      = ∑ j : Fin 8, if j.val < k.val + 1 then pr U j else 0 := by
  rw [pay23_eq]
  pointwise [mtri_at, mblk_at]
  rw [tri_sum]
  refine Finset.sum_congr rfl fun j _ => ?_
  split
  · rw [blk_sum, pr, hv]
    simp only [hv]
  · rfl

/-- The edges: the first is −3, the last 3, between them the scaled running sums. -/
theorem pay26_at (v : FVec Ideal S192x4096 .f32) (U : Fin 8 → EReal) (g : Fin 24) (k : Fin 8) (l : Fin 4096)
    (hv : v (ix2 (⟨g.val * 8 + k.val, by omega⟩ : Fin 192) l) = ∑ j : Fin 8, if j.val < k.val + 1 then pr U j else 0) :
    k0_pay26 (F := Ideal) v (Scalar.select (Scalar.cmpi .eq 8#32 0#32) 1#32 8#32) k0_pay24 k0_pay25 (ix2 (⟨g.val * 8 + k.val, by omega⟩ : Fin 192) l)
      = edg U (k.val + 1) := by
  pointwise [k0_pay26, k0_pay24, k0_pay25, hv, named_bin_min, named_bin_scale, lit_three, lit_neg_three]
  have hm : ∀ (g : Fin 24) (k : Fin 8), (Scalar.select
          (IntOp.andi
            (IntOp.xori
              (IntOp.cmpi CmpIPredicate.slt
                (IntOp.remsi ArithUnit.vector (BitVec.ofNat 32 (g.val * 8 + k.val))
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (IntOp.cmpi CmpIPredicate.ne
              (IntOp.remsi ArithUnit.vector (BitVec.ofNat 32 (g.val * 8 + k.val))
                (Scalar.select (Scalar.cmpi CmpIPredicate.eq 8#32 0#32) 1#32 8#32))
              0#32))
          (IntOp.addi
            (IntOp.remsi ArithUnit.vector (BitVec.ofNat 32 (g.val * 8 + k.val))
              (Scalar.select (Scalar.cmpi CmpIPredicate.eq 8#32 0#32) 1#32 8#32))
            (Scalar.select (Scalar.cmpi CmpIPredicate.eq 8#32 0#32) 1#32 8#32))
          (IntOp.remsi ArithUnit.vector (BitVec.ofNat 32 (g.val * 8 + k.val))
            (Scalar.select (Scalar.cmpi CmpIPredicate.eq 8#32 0#32) 1#32 8#32))) = BitVec.ofNat 32 k.val := by
    decide +kernel
  rw [hm, select_eq_word _ 7 (by omega) (by omega), edg, if_neg (show ¬ (k.val + 1 = 0) by omega)]
  by_cases h : k.val = 7
  · rw [if_pos h, if_pos (show 8 ≤ k.val + 1 by omega)]
  · rw [if_neg h, if_neg (show ¬ 8 ≤ k.val + 1 by omega)]
    have hw : ∀ k : Fin 8, (IntOp.addi (BitVec.ofNat 32 k.val) 1#32).toInt = k.val + 1 := by decide +kernel
    congr 3
    show (((IntOp.addi (BitVec.ofNat 32 k.val) 1#32).toInt : ℝ) : EReal) = _
    rw [hw]; push_cast; rfl

/-- The derivatives at the edges after the first. -/
theorem pay31_at (v : FVec Ideal S12x8x4096 .f32) (c : Fin 12) (k : Fin 8) (l : Fin 4096) :
    k0_pay31 (F := Ideal) v k0_pay29 k0_pay30 (ix3 c k l) = if k.val = 7 then 1 else ((1 / 1000 : ℝ) : EReal) + sp (v (ix3 c k l)) := by
  pointwise [k0_pay31, k0_pay29, k0_pay30, named_milli]
  rw [if_neg (fun h => h rfl), select_eq_word _ 7 (by omega) (by omega)]
  have hc : Scalar.log (F := Ideal) (φ := .f32) (Scalar.exp (F := Ideal) (φ := .f32) (1 - ((1 / 1000 : ℝ) : EReal)) - 1) = cst := rfl
  rw [hc]
  by_cases h : k.val = 7
  · rw [if_pos h, if_pos h, ← cst_one, zero_sub]; rfl
  · rw [if_neg h, if_neg h, zero_sub]; rfl

end Cert.KernelIdeal.Body
end
-- ==== Proof.Out.lean ====
module

public import proofs.«01_k».proof.Proof.Params
public import proofs.«01_k».proof.Proof.Spline
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

open Cert.Spline

/-- The matrix that adds up a channel's eight bins. -/
def gm : FVec Ideal S12x96 .f32 := k0_pay41 (iota .tc S12x96 32 [0] iota_S12x96_d0_w32) k0_pay37 k0_pay38 k0_pay39 k0_pay40

/-- An entry of that matrix is one where the row belongs to the channel. -/
theorem gm_at (c : Fin 12) (r : Fin 96) : gm (ix2 c r) = if c.val = r.val / 8 then 1 else 0 := by
  pointwise [gm, k0_pay41, k0_pay37, k0_pay38, k0_pay39, k0_pay40]
  refine Eq.trans (congrArg (FloatOps.sitofp (F := Ideal) .f32) (?_ : _ = if c.val = r.val / 8 then 1#32 else 0#32)) ?_
  · revert c r
    decide +kernel
  · split
    · exact one_word
    · exact zero_word

/-- A sum over the rows against a row of that matrix is the sum over the channel's bins. -/
theorem gm_sum (x : Fin 96 → EReal) (c : Fin 12) : (∑ r : Fin 96, (if c.val = r.val / 8 then (1 : EReal) else 0) * x r) = ∑ k : Fin 8, x ⟨c.val * 8 + k.val, by omega⟩ := by
  rw [Fin.sum_univ_tiles 12 8 rfl, Finset.sum_eq_single c]
  · refine Finset.sum_congr rfl fun j _ => ?_
    rw [if_pos (by simp only; omega), one_mul]
  · intro h _ hn
    refine Finset.sum_eq_zero fun j _ => ?_
    rw [if_neg (fun e => hn (Fin.ext (by simp only at e; omega))), zero_mul]
  · simp

/-- The bin number of every point. -/
def idx (E : FVec Ideal S12x8x4096 .f32) (x : FVec Ideal S12x4096 .f32) : IVec S12x4096 32 :=
  k0_pay42 (F := Ideal) E x (iota .tc S12x96 32 [0] iota_S12x96_d0_w32) k0_pay37 k0_pay38 k0_pay39 k0_pay40

/-- The bin number of a point is the spline's, as a word. -/
theorem idx_at (Ev : FVec Ideal S12x8x4096 .f32) (x : FVec Ideal S12x4096 .f32) (E : ℕ → EReal) (c : Fin 12) (l : Fin 4096)
    (hE : ∀ k : Fin 8, Ev (ix3 c k l) = E (k.val + 1)) :
    idx Ev x (ix2 c l) = BitVec.ofNat 32 (bin E (x (ix2 c l))) := by
  show minsi _ (maxsi _ (fptosi 32 (matmul _ none gm _ _))) (ix2 c l) = _
  pointwise [gm_at]
  rw [gm_sum]
  have e : (∑ k : Fin 8, FloatOps.sitofp (F := Ideal) .f32 (BitVec.setWidth 32 (BitVec.ofBool (decide (E (k.val + 1) ≤ x (ix2 c l))))))
      = (((∑ k : Fin 8, if E (k.val + 1) ≤ x (ix2 c l) then 1 else 0 : ℕ) : ℝ) : EReal) := by
    rw [Nat.cast_sum, ← sum_coe]
    refine Finset.sum_congr rfl fun k _ => ?_
    by_cases h : E (k.val + 1) ≤ x (ix2 c l)
    · rw [if_pos h, decide_eq_true h]; exact one_word.trans (by simp)
    · rw [if_neg h, decide_eq_false h]; exact zero_word.trans (by simp)
  refine Eq.trans (congrArg (fun z => IntOp.minsi 7#32 (IntOp.maxsi 0#32 (FloatOps.fptosi (F := Ideal) (φ := .f32) 32 z))) (Eq.trans ?_ e)) ?_
  · refine Finset.sum_congr rfl fun k _ => ?_
    rw [← hE]
    congr 5 <;> (try congr 1) <;> idx_ext <;> simp <;> omega
  · have hb : (∑ k : Fin 8, if E (k.val + 1) ≤ x (ix2 c l) then 1 else 0 : ℕ) ≤ 8 :=
      (Finset.sum_le_card_nsmul _ _ 1 (fun k _ => by split <;> omega)).trans (by simp)
    rw [bin]
    generalize (∑ k : Fin 8, if E (k.val + 1) ≤ x (ix2 c l) then 1 else 0 : ℕ) = n at hb ⊢
    show IntOp.minsi 7#32 (IntOp.maxsi 0#32 (Ideal.fptosi 32 ((n : ℝ) : EReal))) = _
    rw [Ideal.fptosi, Ideal.toIntClamped_coe, if_pos (Nat.cast_nonneg n), Int.floor_natCast,
      show max (-((2 ^ (32 - 1) : ℕ) : ℤ)) (min (((2 ^ (32 - 1) : ℕ) : ℤ) - 1) (n : ℤ)) = (n : ℤ) by
        rw [min_eq_right (by norm_num; omega), max_eq_right (by norm_num)]]
    have hw : ∀ n : Fin 9, IntOp.minsi 7#32 (IntOp.maxsi 0#32 (BitVec.ofInt 32 (n.val : ℤ))) = BitVec.ofNat 32 (min 7 n.val) := by decide +kernel
    exact hw ⟨n, by omega⟩

/-- The one-hot rows of the bins. -/
def ohr (E : FVec Ideal S12x8x4096 .f32) (x : FVec Ideal S12x4096 .f32) : FVec Ideal S12x8x4096 .f32 :=
  k0_pay43 (F := Ideal) E (iota .tc S12x8x4096 32 [1] iota_S12x8x4096_d1_w32) x (iota .tc S12x96 32 [0] iota_S12x96_d0_w32) k0_pay37 k0_pay38 k0_pay39 k0_pay40

/-- The one-hot rows of the bins' left edges. -/
def ohl (E : FVec Ideal S12x8x4096 .f32) (x : FVec Ideal S12x4096 .f32) : FVec Ideal S12x8x4096 .f32 :=
  k0_pay44 (F := Ideal) E (iota .tc S12x8x4096 32 [1] iota_S12x8x4096_d1_w32) x (iota .tc S12x96 32 [0] iota_S12x96_d0_w32) k0_pay37 k0_pay38 k0_pay39 k0_pay40

/-- A one-hot row is one at the point's bin. -/
theorem ohr_at (Ev : FVec Ideal S12x8x4096 .f32) (x : FVec Ideal S12x4096 .f32) (n : ℕ) (hn : n < 8) (c : Fin 12) (k : Fin 8) (l : Fin 4096)
    (hi : idx Ev x (ix2 c l) = BitVec.ofNat 32 n) :
    ohr Ev x (ix3 c k l) = if n = k.val then 1 else 0 := by
  show sitofp .f32 (extui 32 (cmpi .eq (broadcastTo _ (shapeCast _ (idx Ev x) _) _) _) _) _ = _
  pointwise [hi]
  have hw : ∀ n k : Fin 8, BitVec.setWidth 32 (IntOp.cmpi CmpIPredicate.eq (BitVec.ofNat 32 n.val) (BitVec.ofNat 32 k.val)) = if n.val = k.val then 1#32 else 0#32 := by decide +kernel
  rw [hw ⟨n, hn⟩ k]
  show FloatOps.sitofp (F := Ideal) .f32 (if n = k.val then 1#32 else 0#32) = _
  split
  · exact one_word
  · exact zero_word

/-- A one-hot row of the left edges is one at the bin before the point's. -/
theorem ohl_at (Ev : FVec Ideal S12x8x4096 .f32) (x : FVec Ideal S12x4096 .f32) (n : ℕ) (hn : n < 8) (c : Fin 12) (k : Fin 8) (l : Fin 4096)
    (hi : idx Ev x (ix2 c l) = BitVec.ofNat 32 n) :
    ohl Ev x (ix3 c k l) = if n = k.val + 1 then 1 else 0 := by
  show sitofp .f32 (extui 32 (cmpi .eq (broadcastTo _ (shapeCast _ (idx Ev x) _) _) _) _) _ = _
  pointwise [hi]
  have hw : ∀ n k : Fin 8, BitVec.setWidth 32 (IntOp.cmpi CmpIPredicate.eq (BitVec.ofNat 32 n.val) (IntOp.addi (BitVec.ofNat 32 k.val) 1#32)) = if n.val = k.val + 1 then 1#32 else 0#32 := by decide +kernel
  rw [hw ⟨n, hn⟩ k]
  show FloatOps.sitofp (F := Ideal) .f32 (if n = k.val + 1 then 1#32 else 0#32) = _
  split
  · exact one_word
  · exact zero_word

/-- The sum over the bins against a one-hot row. -/
def gat (o v : FVec Ideal S12x8x4096 .f32) : FVec Ideal S12x4096 .f32 :=
  matmul dot_S12x96_S96x4096_S12x4096_1_0_0_1_n_n none gm (shapeCast S96x4096 (mulf o v) shapeCasts_S12x8x4096_S96x4096) (constant S12x4096 .f32 0x00000000#32)

/-- Such a sum, at a channel and a lane, runs over the channel's eight bins. -/
theorem gat_at (o v : FVec Ideal S12x8x4096 .f32) (c : Fin 12) (l : Fin 4096) :
    gat o v (ix2 c l) = ∑ k : Fin 8, o (ix3 c k l) * v (ix3 c k l) := by
  pointwise [gat, gm_at]
  rw [gm_sum]
  refine Finset.sum_congr rfl fun k _ => ?_
  have e : ∀ w : FVec Ideal S12x8x4096 .f32, w (ix3 (⟨(c.val * 8 + k.val) / 8, by omega⟩ : Fin 12) (⟨(c.val * 8 + k.val) % 8, by omega⟩ : Fin 8) l) = w (ix3 c k l) := by
    intro w; congr 1; idx_ext <;> simp <;> omega
  exact congrArg₂ (· * ·) (e o) (e v)

/-- The value at a point's right edge. -/
theorem rgt_at (Ev x) (v : FVec Ideal S12x8x4096 .f32) (V : ℕ → EReal) (n : ℕ) (hn : n < 8) (c : Fin 12) (l : Fin 4096)
    (hi : idx Ev x (ix2 c l) = BitVec.ofNat 32 n) (hv : ∀ k : Fin 8, v (ix3 c k l) = V (k.val + 1)) :
    gat (ohr Ev x) v (ix2 c l) = V (n + 1) := by
  rw [gat_at, ← sum_pick (fun k => V (k + 1)) n hn]
  refine Finset.sum_congr rfl fun k _ => ?_
  rw [ohr_at Ev x n hn c k l hi, hv]

/-- Whether a point lies in the first bin. -/
def zat (E : FVec Ideal S12x8x4096 .f32) (x : FVec Ideal S12x4096 .f32) : IVec S12x4096 1 := cmpi .eq (idx E x) (broadcast S12x4096 0#32)

/-- The value at a point's left edge: the kernel adds the first edge's value where no one-hot row picks one. -/
def lft (Ev : FVec Ideal S12x8x4096 .f32) (x : FVec Ideal S12x4096 .f32) (v : FVec Ideal S12x8x4096 .f32) (a : Ideal .f32) : FVec Ideal S12x4096 .f32 :=
  addf (gat (ohl Ev x) v) (select (zat Ev x) (broadcast S12x4096 a) (broadcast S12x4096 (Scalar.ofBits .f32 0x00000000#32)))

/-- The value at a point's left edge, the first edge's value given. -/
theorem lft_at (Ev x) (v : FVec Ideal S12x8x4096 .f32) (a : Ideal .f32) (V : ℕ → EReal) (n : ℕ) (hn : n < 8) (c : Fin 12) (l : Fin 4096)
    (hi : idx Ev x (ix2 c l) = BitVec.ofNat 32 n) (hv : ∀ k : Fin 8, v (ix3 c k l) = V (k.val + 1)) (h0 : V 0 = a) :
    lft Ev x v a (ix2 c l) = V n := by
  have key : gat (ohl Ev x) v (ix2 c l) = ∑ k : Fin 8, (if n = k.val + 1 then (1 : EReal) else 0) * V (k.val + 1) := by
    rw [gat_at]
    refine Finset.sum_congr rfl fun k _ => ?_
    rw [ohl_at Ev x n hn c k l hi, hv]
  pointwise [lft, zat, hi, key]
  rw [select_eq_word n 0 (by omega) (by omega), ← h0]
  exact sum_pick_left V n hn

/-- The kernel's transformed point. -/
def kval (E F D : FVec Ideal S12x8x4096 .f32) (x : FVec Ideal S12x4096 .f32) : FVec Ideal S12x4096 .f32 :=
  k0_pay58 F D x gm (ohr E x) (ohl E x) (zat E x) (lft E x E (Scalar.ofBits .f32 0xC0400000#32)) (subf (gat (ohr E x) E) (lft E x E (Scalar.ofBits .f32 0xC0400000#32)))
    (gat (ohl E x) F) (Scalar.ofBits .f32 0xC0400000#32)

/-- The kernel's spline denominator. -/
def kden (E F D : FVec Ideal S12x8x4096 .f32) (x : FVec Ideal S12x4096 .f32) : FVec Ideal S12x4096 .f32 :=
  k0_pay57 F D x gm (ohr E x) (ohl E x) (zat E x) (lft E x E (Scalar.ofBits .f32 0xC0400000#32)) (subf (gat (ohr E x) E) (lft E x E (Scalar.ofBits .f32 0xC0400000#32)))
    (gat (ohl E x) F) (Scalar.ofBits .f32 0xC0400000#32)

/-- The kernel's logarithm of the numerator of the derivative. -/
def klog (E F D : FVec Ideal S12x8x4096 .f32) (x : FVec Ideal S12x4096 .f32) : FVec Ideal S12x4096 .f32 :=
  k0_pay59 F D x gm (ohr E x) (ohl E x) (zat E x) (lft E x E (Scalar.ofBits .f32 0xC0400000#32)) (subf (gat (ohr E x) E) (lft E x E (Scalar.ofBits .f32 0xC0400000#32)))
    (gat (ohl E x) F) (Scalar.ofBits .f32 0xC0400000#32)

section
variable (Ev Fv Dv : FVec Ideal S12x8x4096 .f32) (xa xc : FVec Ideal S12x4096 .f32) (E F D : ℕ → EReal) (c : Fin 12) (l : Fin 4096)

/-- What the kernel's edges, derivatives and cut points are at a channel and a lane. -/
structure Has : Prop where
  e : ∀ k : Fin 8, Ev (ix3 c k l) = E (k.val + 1)
  f : ∀ k : Fin 8, Fv (ix3 c k l) = F (k.val + 1)
  d : ∀ k : Fin 8, Dv (ix3 c k l) = D (k.val + 1)
  e0 : E 0 = ((-3 : ℝ) : EReal)
  f0 : F 0 = ((-3 : ℝ) : EReal)
  d0 : D 0 = 1
  x : xc (ix2 c l) = clp (xa (ix2 c l))

variable {Ev Fv Dv xa xc E F D c l} (h : Has Ev Fv Dv xa xc E F D c l)
include h

/-- The bin number of the point. -/
theorem Has.i : idx Ev xc (ix2 c l) = BitVec.ofNat 32 (bin E (clp (xa (ix2 c l)))) := by
  rw [idx_at Ev xc E c l h.e, h.x]

/-- The left edge of the bin. -/
theorem Has.icw : lft Ev xc Ev (Ideal.ofBits .f32 0xC0400000#32) (ix2 c l) = E (bin E (clp (xa (ix2 c l)))) :=
  lft_at _ _ _ _ E _ (bin_lt _ _) c l h.i h.e (h.e0.trans lit_neg_three.symm)

/-- The right edge of the bin. -/
theorem Has.icw1 : gat (ohr Ev xc) Ev (ix2 c l) = E (bin E (clp (xa (ix2 c l))) + 1) :=
  rgt_at _ _ _ E _ (bin_lt _ _) c l h.i h.e

/-- The height at the left edge. -/
theorem Has.ich : k0_pay49 (F := Ideal) (zat Ev xc) (gat (ohl Ev xc) Fv) (Ideal.ofBits .f32 0xC0400000#32) (ix2 c l) = F (bin E (clp (xa (ix2 c l)))) :=
  lft_at Ev xc Fv _ F _ (bin_lt _ _) c l h.i h.f (h.f0.trans lit_neg_three.symm)

/-- The bin's height. -/
theorem Has.ih : k0_pay50 (F := Ideal) Fv gm (ohr Ev xc) (zat Ev xc) (gat (ohl Ev xc) Fv) (Ideal.ofBits .f32 0xC0400000#32) (ix2 c l)
    = F (bin E (clp (xa (ix2 c l))) + 1) - F (bin E (clp (xa (ix2 c l)))) := by
  rw [← h.ich, ← rgt_at Ev xc Fv F _ (bin_lt _ _) c l h.i h.f]
  rfl

/-- The derivative at the right edge. -/
theorem Has.id1 : k0_pay51 (F := Ideal) Dv gm (ohr Ev xc) (ix2 c l) = D (bin E (clp (xa (ix2 c l))) + 1) :=
  rgt_at Ev xc Dv D _ (bin_lt _ _) c l h.i h.d

/-- The derivative at the left edge. -/
theorem Has.id0 : k0_pay52 (F := Ideal) Dv gm (ohl Ev xc) (zat Ev xc) (ix2 c l) = D (bin E (clp (xa (ix2 c l)))) :=
  lft_at Ev xc Dv (Scalar.ofBits .f32 0x3F800000#32) D _ (bin_lt _ _) c l h.i h.d (h.d0.trans Ideal.ofBits_one_f32.symm)

/-- The kernel's denominator is the spline's. -/
theorem Has.den : kden Ev Fv Dv xc (ix2 c l) = den E F D (xa (ix2 c l)) := by
  pointwise [kden, k0_pay57, k0_pay53, k0_pay54, k0_pay55, h.icw, h.icw1, h.ih, h.id1, h.id0, h.x, lit_two]
  rfl

/-- The kernel's transformed point is the spline's. -/
theorem Has.val : kval Ev Fv Dv xc (ix2 c l) = val E F D (xa (ix2 c l)) := by
  have e : kval Ev Fv Dv xc (ix2 c l) = _ := congrArg (fun z => k0_pay49 (F := Ideal) (zat Ev xc) (gat (ohl Ev xc) Fv) (Scalar.ofBits .f32 0xC0400000#32) (ix2 c l) + Ideal.div _ z) h.den
  refine e.trans ?_
  pointwise [k0_pay53, k0_pay54, k0_pay55, k0_pay56, h.icw, h.icw1, h.ich, h.ih, h.id1, h.id0, h.x, lit_two]
  rfl

/-- The kernel's logarithm is that of the derivative's numerator. -/
theorem Has.log : klog Ev Fv Dv xc (ix2 c l) = Ideal.log (dnum E F D (xa (ix2 c l))) := by
  pointwise [klog, k0_pay59, k0_pay53, k0_pay54, k0_pay55, k0_pay56, h.icw, h.icw1, h.ich, h.ih, h.id1, h.id0, h.x, lit_two]
  rw [mul_assoc (D _)]
  rfl

end

/-- Inside the interval. -/
theorem pay1_at (xa : FVec Ideal S12x4096 .f32) (c : Fin 12) (l : Fin 4096) (a b : EReal) :
    Scalar.select (k0_pay1 (F := Ideal) xa (ix2 c l)) a b = @ite _ (inside (xa (ix2 c l))) (Classical.propDecidable _) a b := by
  classical
  pointwise [k0_pay1, lit_three, lit_neg_three]
  unfold inside
  generalize ((-3 : ℝ) : EReal) = p
  generalize ((3 : ℝ) : EReal) = q
  by_cases h1 : p ≤ xa (ix2 c l) <;> by_cases h2 : xa (ix2 c l) ≤ q <;>
    simp [h1, h2, Scalar.select, IntOp.andi]

/-- The stored point: the frozen half plus the spline of the other half, which outside the interval is the point itself. -/
theorem pay2_at (xr : FVec Ideal S12x4096 .f32) (fr : FVec Ideal S1x4096 .f32) (xa y : FVec Ideal S12x4096 .f32) (c : Fin 12) (l : Fin 4096) :
    k0_pay2 (F := Ideal) xr fr xa y (ix3 0 c l) = xr (ix2 c l) * fr (ix2 0 l) + Scalar.select (k0_pay1 (F := Ideal) xa (ix2 c l)) (y (ix2 c l)) (xa (ix2 c l)) := by
  pointwise [k0_pay2]

/-- The stored logarithm: the sum over the channels of the logarithms of the derivatives, zero outside the interval. -/
theorem pay3_at (xa d g : FVec Ideal S12x4096 .f32) (l : Fin 4096) :
    k0_pay3 (F := Ideal) xa d g (ix4 0 0 0 l) = ∑ c : Fin 12, Scalar.select (k0_pay1 (F := Ideal) xa (ix2 c l)) (g (ix2 c l) - ((2 : ℝ) : EReal) * Ideal.log (d (ix2 c l))) 0 := by
  pointwise [k0_pay3, lit_two]

end Cert.KernelIdeal.Body
end
-- ==== Proof.Spec.lean ====
module

public import proofs.«01_k».proof.Proof.Spline
public import Idealize.ShloMosaic.Lib.Pointwise
public import Idealize.ShloMosaic.Lib.IdealHost
public import Idealize.ShloMosaic.PureOps.Ideal.Laws

@[expose] public section

noncomputable section

namespace Cert.Spline

open Idealize.ShloMosaic

/-- The checkerboard: zero at even row plus column, one at odd. -/
def par (n : ℕ) : EReal := FloatOps.sitofp (F := Ideal) .f32 (BitVec.ofNat 32 (n % 2))

/-- The checkerboard depends on the parity only. -/
theorem par_congr {n m : ℕ} (h : n % 2 = m % 2) : par n = par m := by rw [par, par, h]

/-- The network's input: the frozen half of the image over the conditioning channels, with two rows of zeros above and below and
    one column of zeros at each side. -/
def zin (x : ℕ → ℕ → ℕ → EReal) (y : ℕ → ℕ → ℕ → EReal) (c : Fin 16) (r w : ℕ) : EReal :=
  if 2 ≤ r ∧ r < 130 ∧ 1 ≤ w ∧ w < 129 then
    (if c.val < 12 then x c.val (r - 2) (w - 1) * par ((r - 2) + (w - 1)) else y (c.val - 12) (r - 2) (w - 1))
  else 0

/-- The first hidden layer; row `r` is row `r - 1` of the image. -/
def hidA (z : Fin 16 → ℕ → ℕ → EReal) (W1 : Fin 64 → Fin 16 → Fin 3 → Fin 3 → EReal) (b1 : Fin 64 → EReal) (o : Fin 64) (r w : ℕ) : EReal :=
  max ((∑ dx : Fin 3, ∑ dy : Fin 3, ∑ c : Fin 16, W1 o c dy dx * z c (r + dy.val) (w + dx.val)) + b1 o) 0

/-- The second hidden layer, zero outside the image; row `r` and column `w` are row `r - 1` and column `w - 1` of the image. -/
def hidB (z : Fin 16 → ℕ → ℕ → EReal) (W1 : Fin 64 → Fin 16 → Fin 3 → Fin 3 → EReal) (b1 : Fin 64 → EReal)
    (W2 : Fin 64 → Fin 64 → EReal) (b2 : Fin 64 → EReal) (o : Fin 64) (r w : ℕ) : EReal :=
  if 1 ≤ r ∧ r < 129 ∧ 1 ≤ w ∧ w < 129 then max ((∑ k : Fin 64, W2 o k * hidA z W1 b1 k r (w - 1)) + b2 o) 0 else 0

/-- The last convolution at row `h` and column `w` of the image, for one output channel's weights and bias. -/
def conv3 (H : Fin 64 → ℕ → ℕ → EReal) (W3 : Fin 64 → Fin 3 → Fin 3 → EReal) (b3 : EReal) (h w : ℕ) : EReal :=
  (∑ dx : Fin 3, ∑ dy : Fin 3, ∑ o : Fin 64, W3 o dy dx * H o (h + dy.val) (w + dx.val)) + b3

/-- The frozen half of a point plus the spline of the other half. -/
def outP (P : ℕ → EReal) (Q : ℕ → EReal) (d : ℕ → EReal) (x : EReal) (n : ℕ) : EReal :=
  x * par n + out (edg fun j => P j.val) (edg fun j => Q j.val) (der d) (x * (1 - par n))

/-- The logarithm of the spline's derivative at the other half of a point. -/
def ladP (P : ℕ → EReal) (Q : ℕ → EReal) (d : ℕ → EReal) (x : EReal) (n : ℕ) : EReal :=
  lad (edg fun j => P j.val) (edg fun j => Q j.val) (der d) (x * (1 - par n))

end Cert.Spline
end
-- ==== Proof.Body.lean ====
module

public import proofs.«01_k».proof.Proof.Conv2
public import proofs.«01_k».proof.Proof.Out
public import proofs.«01_k».proof.Proof.Spec
public import Idealize.ShloMosaic.Lib.Pointwise

@[expose] public section

set_option maxRecDepth 65536

noncomputable section

namespace Cert.KernelIdeal.Body

open Idealize.ShloMosaic Idealize.ShloMosaic.TcCoe Idealize.SL.Sem
open Cert.KernelIdeal Cert.KernelIdeal.Gen

open Cert.Spline

section
variable (x : FVec Ideal S1x12x4608 .f32) (y : FVec Ideal S1x4x4608 .f32) (w1 : FVec Ideal S3x64x48 .f32) (b1 : FVec Ideal S64x1 .f32)
  (w2 : FVec Ideal S64x64 .f32) (b2 : FVec Ideal S64x1 .f32) (w3 : FVec Ideal S3x288x192 .f32) (b3 : FVec Ideal S288x1 .f32) (t : BitVec 32)

/-- The second hidden layer of a tile, before the rows outside the image are set to zero. -/
def hidV : FVec Ideal S64x4352 .f32 :=
  k0_pay11 (F := Ideal) (k0_pay6 k0_pay4 x y) (k0_pay7 w1) k0_pay8 (k0_pay9 k0_pay4 x y) (k0_pay10 w1) (constant S64x4352 .f32 0x00000000#32) b1 w2 b2

/-- The second hidden layer of a tile. -/
def hidM : FVec Ideal S64x4352 .f32 :=
  k0_pay13 (F := Ideal) (hidV x y w1 b1 w2 b2) (iota .tc S1x4352 32 [1] iota_S1x4352_d1_w32) (Scalar.subi (Scalar.muli t 32#32) 1#32) 128#32 k0_pay12

/-- The last convolution of a tile. -/
def prmV : FVec Ideal S288x4096 .f32 :=
  k0_pay17 (F := Ideal) (hidM x y w1 b1 w2 b2 t) (k0_pay14 w3) (Scalar.select (Scalar.cmpi .eq 128#32 0#32) 1#32 128#32) k0_pay15 k0_pay16 0#32

/-- The running sums of the shares. -/
def csV : FVec Ideal S192x4096 .f32 :=
  k0_pay23 (F := Ideal) (k0_pay20 (prmV x y w1 b1 w2 b2 w3 t) b3) (iota .tc S192x192 32 [0] iota_S192x192_d0_w32) (iota .tc S192x192 32 [1] iota_S192x192_d1_w32) k0_pay21 8#32 k0_pay22

/-- The edges of the widths. -/
def edW : FVec Ideal S12x8x4096 .f32 :=
  k0_pay27 (F := Ideal) (csV x y w1 b1 w2 b2 w3 b3 t) (Scalar.select (Scalar.cmpi .eq 8#32 0#32) 1#32 8#32) k0_pay24 k0_pay25

/-- The edges of the heights. -/
def edH : FVec Ideal S12x8x4096 .f32 :=
  k0_pay28 (F := Ideal) (csV x y w1 b1 w2 b2 w3 b3 t) (Scalar.select (Scalar.cmpi .eq 8#32 0#32) 1#32 8#32) k0_pay24 k0_pay25

/-- The derivatives. -/
def drv : FVec Ideal S12x8x4096 .f32 := k0_pay31 (F := Ideal) (k0_pay19 (prmV x y w1 b1 w2 b2 w3 t) b3) k0_pay29 k0_pay30

/-- The points of the tile. -/
def xrV : FVec Ideal S12x4096 .f32 := k0_pay32 (F := Ideal) (k0_pay5 x)

/-- The half of the points that is transformed. -/
def xaV : FVec Ideal S12x4096 .f32 := k0_pay35 (F := Ideal) (xrV x) k0_pay33 2#32

/-- That half, cut to the spline's interval. -/
def xcV : FVec Ideal S12x4096 .f32 := k0_pay36 (F := Ideal) (xrV x) k0_pay33 2#32

/-- The block of transformed points. -/
def outV : FVec Ideal S1x12x4096 .f32 :=
  k0_pay2 (F := Ideal) (xrV x) (k0_pay34 k0_pay33 2#32) (xaV x)
    (kval (edW x y w1 b1 w2 b2 w3 b3 t) (edH x y w1 b1 w2 b2 w3 b3 t) (drv x y w1 b1 w2 b2 w3 b3 t) (xcV x))

/-- The block of logarithms of derivatives, added over the channels. -/
def ladV : FVec Ideal S1x1x1x4096 .f32 :=
  k0_pay3 (F := Ideal) (xaV x) (kden (edW x y w1 b1 w2 b2 w3 b3 t) (edH x y w1 b1 w2 b2 w3 b3 t) (drv x y w1 b1 w2 b2 w3 b3 t) (xcV x))
    (klog (edW x y w1 b1 w2 b2 w3 b3 t) (edH x y w1 b1 w2 b2 w3 b3 t) (drv x y w1 b1 w2 b2 w3 b3 t) (xcV x))

end

section
variable {x : FVec Ideal S1x12x4608 .f32} {y : FVec Ideal S1x4x4608 .f32} (X Y : ℕ → ℕ → ℕ → EReal) (t : Fin 4)

/-- What the tiles hold: rows `32 t` and on of the images, which have two rows of zeros above and below. -/
structure Tile (x : FVec Ideal S1x12x4608 .f32) (y : FVec Ideal S1x4x4608 .f32) (X Y : ℕ → ℕ → ℕ → EReal) (t : Fin 4) : Prop where
  x : ∀ (c : Fin 12) (l : Fin 4608), x (ix3 0 c l) = if 2 ≤ 32 * t.val + l.val / 128 ∧ 32 * t.val + l.val / 128 < 130 then X c.val (32 * t.val + l.val / 128 - 2) (l.val % 128) else 0
  y : ∀ (c : Fin 4) (l : Fin 4608), y (ix3 0 c l) = if 2 ≤ 32 * t.val + l.val / 128 ∧ 32 * t.val + l.val / 128 < 130 then Y c.val (32 * t.val + l.val / 128 - 2) (l.val % 128) else 0

variable {X Y t} (h : Tile x y X Y t)
include h

/-- The joined input of a tile is the network's input, one column further right. -/
theorem Tile.z (c : Fin 16) (l : Fin 4608) : k0_pay6 (F := Ideal) k0_pay4 x y (ix2 c l) = zin X Y c (32 * t.val + l.val / 128) (l.val % 128 + 1) := by
  by_cases hc : c.val < 12
  · pointwise [k0_pay6, k0_pay5, pay4_at]
    rw [dif_pos hc, h.x, zin]
    by_cases hr : 2 ≤ 32 * t.val + l.val / 128 ∧ 32 * t.val + l.val / 128 < 130
    · rw [if_pos hr, if_pos ⟨hr.1, hr.2, by omega, by omega⟩, if_pos hc]
      exact congrArg (_ * ·) (par_congr (n := l.val / 128 + l.val) (by omega))
    · rw [if_neg hr, if_neg (fun q => hr ⟨q.1, q.2.1⟩), zero_mul]
  · pointwise [k0_pay6, k0_pay5, pay4_at]
    rw [dif_neg hc]
    refine (h.y _ l).trans ?_
    unfold zin
    by_cases hr : 2 ≤ 32 * t.val + l.val / 128 ∧ 32 * t.val + l.val / 128 < 130
    · refine (if_pos hr).trans (Eq.symm ((if_pos ⟨hr.1, hr.2, by omega, by omega⟩).trans ((if_neg hc).trans ?_)))
      rfl
    · exact (if_neg hr).trans (if_neg (fun q => hr ⟨q.1, q.2.1⟩)).symm

variable (w1 : FVec Ideal S3x64x48 .f32) (b1 : FVec Ideal S64x1 .f32)
  (w2 : FVec Ideal S64x64 .f32) (b2 : FVec Ideal S64x1 .f32) (w3 : FVec Ideal S3x288x192 .f32) (b3 : FVec Ideal S288x1 .f32)

/-- The second hidden layer of a tile is the network's. -/
theorem Tile.hid (o : Fin 64) (l : Fin 4352) :
    hidM x y w1 b1 w2 b2 (BitVec.ofNat 32 t.val) (ix2 o l)
      = hidB (zin X Y) (fun o c dy dx => w1 (ix3 dx o (⟨dy.val * 16 + c.val, by omega⟩ : Fin 48))) (fun o => b1 (ix2 o 0)) (fun o k => w2 (ix2 o k)) (fun o => b2 (ix2 o 0))
          o (32 * t.val + l.val / 128) (l.val % 128 + 1) := by
  rw [hidM, pay13_at, hidB]
  by_cases hr : 1 ≤ 32 * t.val + l.val / 128 ∧ 32 * t.val + l.val / 128 < 129
  · rw [if_pos hr, if_pos ⟨hr.1, hr.2, by omega, by omega⟩, hidV, pay11_eq, hid2_at]
    congr 2
    refine Finset.sum_congr rfl fun k _ => ?_
    rw [hid1_at, conv1_at (zin X Y) (32 * t.val) (fun c r => by rw [zin, if_neg (by omega)]) (fun c r => by rw [zin, if_neg (by omega)]) _ h.z w1 k l]
    rfl
  · rw [if_neg hr, if_neg (fun q => hr ⟨q.1, q.2.1⟩)]

/-- The parameters of a tile. -/
def tprm (w1 : FVec Ideal S3x64x48 .f32) (b1 : FVec Ideal S64x1 .f32)
    (w2 : FVec Ideal S64x64 .f32) (b2 : FVec Ideal S64x1 .f32) (w3 : FVec Ideal S3x288x192 .f32) (b3 : FVec Ideal S288x1 .f32) (X Y : ℕ → ℕ → ℕ → EReal) (r : Fin 288) (h w : ℕ) : EReal :=
  conv3 (hidB (zin X Y) (fun o c dy dx => w1 (ix3 dx o (⟨dy.val * 16 + c.val, by omega⟩ : Fin 48))) (fun o => b1 (ix2 o 0)) (fun o k => w2 (ix2 o k)) (fun o => b2 (ix2 o 0)))
    (fun o dy dx => w3 (ix3 dx r (⟨dy.val * 64 + o.val, by omega⟩ : Fin 192))) (b3 (ix2 r 0)) h w

/-- The last convolution of a tile with its bias is the network's parameters. -/
theorem Tile.prm (r : Fin 288) (l : Fin 4096) :
    k0_pay18 (F := Ideal) (prmV x y w1 b1 w2 b2 w3 (BitVec.ofNat 32 t.val)) b3 (ix2 r l)
      = tprm w1 b1 w2 b2 w3 b3 X Y r (32 * t.val + l.val / 128) (l.val % 128) := by
  rw [pay18_at, prmV, pay17_eq, conv2_at (hidB (zin X Y) _ _ _ _) (32 * t.val) (fun c r => by rw [hidB, if_neg (by omega)]) (fun c r => by rw [hidB, if_neg (by omega)]) _ (h.hid w1 b1 w2 b2) w3 r l]
  rfl

/-- The rows of parameters at a lane, zero past the last. -/
def trow (w1 : FVec Ideal S3x64x48 .f32) (b1 : FVec Ideal S64x1 .f32)
    (w2 : FVec Ideal S64x64 .f32) (b2 : FVec Ideal S64x1 .f32) (w3 : FVec Ideal S3x288x192 .f32) (b3 : FVec Ideal S288x1 .f32) (X Y : ℕ → ℕ → ℕ → EReal) (h w : ℕ) (r : ℕ) : EReal :=
  if hr : r < 288 then tprm w1 b1 w2 b2 w3 b3 X Y ⟨r, hr⟩ h w else 0

/-- The same, for a row given by its number. -/
theorem Tile.row (r : ℕ) (hr : r < 288) (l : Fin 4096) :
    k0_pay18 (F := Ideal) (prmV x y w1 b1 w2 b2 w3 (BitVec.ofNat 32 t.val)) b3 (ix2 (⟨r, hr⟩ : Fin 288) l)
      = trow w1 b1 w2 b2 w3 b3 X Y (32 * t.val + l.val / 128) (l.val % 128) r := by
  rw [h.prm, trow, dif_pos hr]

/-- A row of edges of a tile is the spline's edge after the bin. -/
theorem Tile.edge (g : Fin 24) (k : Fin 8) (l : Fin 4096) :
    k0_pay26 (F := Ideal) (csV x y w1 b1 w2 b2 w3 b3 (BitVec.ofNat 32 t.val)) (Scalar.select (Scalar.cmpi .eq 8#32 0#32) 1#32 8#32) k0_pay24 k0_pay25 (ix2 (⟨g.val * 8 + k.val, by omega⟩ : Fin 192) l)
      = edg (fun j => trow w1 b1 w2 b2 w3 b3 X Y (32 * t.val + l.val / 128) (l.val % 128) (g.val * 8 + j.val)) (k.val + 1) := by
  refine pay26_at _ _ g k l (pay23_at _ _ g k l fun j => ?_)
  rw [pay20_at]
  congr 1
  funext i
  exact h.row w1 b1 w2 b2 w3 b3 _ _ l

/-- The edges, the derivatives and the cut points of a tile at a channel and a lane are the spline's. -/
theorem Tile.has (c : Fin 12) (l : Fin 4096) :
    Has (edW x y w1 b1 w2 b2 w3 b3 (BitVec.ofNat 32 t.val)) (edH x y w1 b1 w2 b2 w3 b3 (BitVec.ofNat 32 t.val)) (drv x y w1 b1 w2 b2 w3 b3 (BitVec.ofNat 32 t.val)) (xaV x) (xcV x)
      (edg fun j => trow w1 b1 w2 b2 w3 b3 X Y (32 * t.val + l.val / 128) (l.val % 128) (c.val * 8 + j.val))
      (edg fun j => trow w1 b1 w2 b2 w3 b3 X Y (32 * t.val + l.val / 128) (l.val % 128) ((c.val + 12) * 8 + j.val))
      (der fun j => trow w1 b1 w2 b2 w3 b3 X Y (32 * t.val + l.val / 128) (l.val % 128) (192 + (c.val * 8 + j))) c l where
  e := fun k => by
    rw [← h.edge w1 b1 w2 b2 w3 b3 ⟨c.val, by omega⟩ k l]
    pointwise [edW, k0_pay27]
  f := fun k => by
    rw [← h.edge w1 b1 w2 b2 w3 b3 ⟨c.val + 12, by omega⟩ k l]
    pointwise [edH, k0_pay28]
    congr 1
    idx_ext <;> simp <;> omega
  d := fun k => by
    rw [drv, pay31_at, pay19_at, h.row w1 b1 w2 b2 w3 b3, der, if_neg (show ¬ k.val + 1 = 0 by omega)]
    by_cases hk : k.val = 7
    · rw [if_pos hk, if_pos (by omega)]
    · rw [if_neg hk, if_neg (by omega)]
      rfl
  e0 := rfl
  f0 := rfl
  d0 := rfl
  x := by
    pointwise [xcV, k0_pay36, lit_three, lit_neg_three]
    rfl

omit h in
/-- The checkerboard of a tile at a lane is the image's: a tile starts at an even row. -/
theorem fr_at (l : Fin 4096) : k0_pay34 (F := Ideal) k0_pay33 2#32 (ix2 0 l) = par (32 * t.val + l.val / 128 + l.val % 128) := by
  rw [pay34_at, par]
  congr 2
  omega

/-- The points of a tile are the image's. -/
theorem Tile.xr (c : Fin 12) (l : Fin 4096) : xrV x (ix2 c l) = X c.val (32 * t.val + l.val / 128) (l.val % 128) := by
  pointwise [xrV, k0_pay32, k0_pay5, h.x]
  rw [if_pos (by omega), show 32 * t.val + (256 + l.val) / 128 - 2 = 32 * t.val + l.val / 128 by omega, show (256 + l.val) % 128 = l.val % 128 by omega]

/-- The transformed half of the points of a tile, at a lane. -/
theorem Tile.xa (c : Fin 12) (l : Fin 4096) : xaV x (ix2 c l) = X c.val (32 * t.val + l.val / 128) (l.val % 128) * (1 - par (32 * t.val + l.val / 128 + l.val % 128)) := by
  pointwise [xaV, k0_pay35, h.xr, fr_at (t := t)]

/-- The block of transformed points at a lane. -/
theorem Tile.out (c : Fin 12) (l : Fin 4096) :
    outV x y w1 b1 w2 b2 w3 b3 (BitVec.ofNat 32 t.val) (ix3 0 c l)
      = outP (fun j => trow w1 b1 w2 b2 w3 b3 X Y (32 * t.val + l.val / 128) (l.val % 128) (c.val * 8 + j))
          (fun j => trow w1 b1 w2 b2 w3 b3 X Y (32 * t.val + l.val / 128) (l.val % 128) ((c.val + 12) * 8 + j))
          (fun j => trow w1 b1 w2 b2 w3 b3 X Y (32 * t.val + l.val / 128) (l.val % 128) (192 + (c.val * 8 + j)))
          (X c.val (32 * t.val + l.val / 128) (l.val % 128)) (32 * t.val + l.val / 128 + l.val % 128) := by
  rw [outV, pay2_at, pay1_at, (h.has w1 b1 w2 b2 w3 b3 c l).val, h.xr, h.xa, fr_at (t := t)]
  rfl

/-- The block of logarithms at a lane. -/
theorem Tile.lad (l : Fin 4096) :
    ladV x y w1 b1 w2 b2 w3 b3 (BitVec.ofNat 32 t.val) (ix4 0 0 0 l)
      = ∑ c : Fin 12, ladP (fun j => trow w1 b1 w2 b2 w3 b3 X Y (32 * t.val + l.val / 128) (l.val % 128) (c.val * 8 + j))
          (fun j => trow w1 b1 w2 b2 w3 b3 X Y (32 * t.val + l.val / 128) (l.val % 128) ((c.val + 12) * 8 + j))
          (fun j => trow w1 b1 w2 b2 w3 b3 X Y (32 * t.val + l.val / 128) (l.val % 128) (192 + (c.val * 8 + j)))
          (X c.val (32 * t.val + l.val / 128) (l.val % 128)) (32 * t.val + l.val / 128 + l.val % 128) := by
  rw [ladV, pay3_at]
  refine Finset.sum_congr rfl fun c _ => ?_
  rw [pay1_at, (h.has w1 b1 w2 b2 w3 b3 c l).den, (h.has w1 b1 w2 b2 w3 b3 c l).log, h.xa]
  rfl

end

end Cert.KernelIdeal.Body
end
-- ==== Proof.Blocks.lean ====
module

public import proofs.«01_k».proof.Proof.Body
public import proofs.«01_k».proof.Proof.Gen.KernelIdeal.Frame
public import Idealize.ShloMosaic.Lib.Pipeline.ValueKit
public import Idealize.ShloMosaic.Lib.Pointwise

@[expose] public section

set_option maxRecDepth 65536

noncomputable section

namespace Cert.KernelIdeal.Body

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ)

/-- The tile's rows of the padded image. -/
def ldx (X : FVec Ideal S16x12x16896 .f32) (b : Fin 16) (t : Fin 4) : FVec Ideal S1x12x4608 .f32 :=
  fun i => X (ix3 b (i 1) ⟨4096 * t.val + (i 2).val, by have : (i 2).val < 4608 := (i 2).isLt; omega⟩)

/-- The tile's rows of the padded conditioning image. -/
def ldy (X : FVec Ideal S16x4x16896 .f32) (b : Fin 16) (t : Fin 4) : FVec Ideal S1x4x4608 .f32 :=
  fun i => X (ix3 b (i 1) ⟨4096 * t.val + (i 2).val, by have : (i 2).val < 4608 := (i 2).isLt; omega⟩)

/-- The grid has 64 points. -/
theorem pt_lt (t : Fin cfg0.N) : t.val < 64 := t.isLt

/-- The image a grid point works on. -/
def pb (t : Fin cfg0.N) : Fin 16 := ⟨t.val / 4, by have := pt_lt t; omega⟩

/-- The tile a grid point works on. -/
def pt (t : Fin cfg0.N) : Fin 4 := ⟨t.val % 4, by omega⟩

/-- Every grid point's two loads start at its tile's first lane, and its second coordinate is its tile. -/
theorem off1_facts : ∀ t : Fin cfg0.N, k0_off1 (grid0.coords t) = ![0, 0, 4096 * (t.val % 4)] ∧ k0_off2 (grid0.coords t) = ![0, 0, 4096 * (t.val % 4)]
    ∧ BitVec.ofNat 32 (grid0.coords t 1).val = BitVec.ofNat 32 (t.val % 4) :=
  (by decide +kernel : ∀ t : Fin grid0.N, _)

/-- The windows of the images and of the results move with the image, those of the results with the tile too. -/
theorem idx_facts : ∀ t : Fin cfg0.N, win0_0.index t = ![t.val / 4, 0, 0] ∧ win0_1.index t = ![t.val / 4, 0, 0]
    ∧ win0_8.index t = ![t.val / 4, 0, t.val % 4] ∧ win0_9.index t = ![t.val / 4, t.val % 4, 0, 0] :=
  (by decide +kernel : ∀ t : Fin grid0.N, _)

/-- The windows of the weights and of the biases stay where they are. -/
theorem idx_facts' : ∀ t : Fin cfg0.N, win0_2.index t = ![0, 0, 0] ∧ win0_3.index t = ![0, 0]
    ∧ win0_4.index t = ![0, 0] ∧ win0_5.index t = ![0, 0] ∧ win0_6.index t = ![0, 0, 0] ∧ win0_7.index t = ![0, 0] :=
  (by decide +kernel : ∀ t : Fin grid0.N, _)

/-- Window 2 holds its whole array. -/
theorem iblk2 (c : Dev nD) (t : Fin cfg0.N) : iblk m c 2 t = V m c main_v28 := by
  funext i
  unfold iblk
  blk_ext [idx_facts' t]

/-- Window 3 holds its whole array. -/
theorem iblk3 (c : Dev nD) (t : Fin cfg0.N) : iblk m c 3 t = V m c main_v29 := by
  funext i
  unfold iblk
  blk_ext [idx_facts' t]

/-- Window 4 holds its whole array. -/
theorem iblk4 (c : Dev nD) (t : Fin cfg0.N) : iblk m c 4 t = V m c main_v30 := by
  funext i
  unfold iblk
  blk_ext [idx_facts' t]

/-- Window 5 holds its whole array. -/
theorem iblk5 (c : Dev nD) (t : Fin cfg0.N) : iblk m c 5 t = V m c main_v31 := by
  funext i
  unfold iblk
  blk_ext [idx_facts' t]

/-- Window 6 holds its whole array. -/
theorem iblk6 (c : Dev nD) (t : Fin cfg0.N) : iblk m c 6 t = V m c main_v70 := by
  funext i
  unfold iblk
  blk_ext [idx_facts' t]

/-- Window 7 holds its whole array. -/
theorem iblk7 (c : Dev nD) (t : Fin cfg0.N) : iblk m c 7 t = V m c main_v71 := by
  funext i
  unfold iblk
  blk_ext [idx_facts' t]

/-- The load from window 0 is the tile's rows. -/
theorem iblk0 (c : Dev nD) (t : Fin cfg0.N) : View.ld (iblk m c 0 t) (Rect.unit (s := S1x12x16896) (k0_off1 (grid0.coords t)) S1x12x4608.size (k0_off1_inb _))
    = ldx (V m c main_v1) (pb t) (pt t) := by
  funext i
  have b1 : (i 1).val < 12 := (i 1).isLt
  have b2 : (i 2).val < 4608 := (i 2).isLt
  refine (View.ld_unit_apply_of _ _ _ _ i (ix3 (0 : Fin 1) (⟨(i 1).val, b1⟩ : Fin 12) (⟨4096 * (t.val % 4) + (i 2).val, by omega⟩ : Fin 16896)) ?_).trans ?_
  · have b0 : (i 0).val < 1 := (i 0).isLt
    have hk : k0_off1 (grid0.coords t) = ![0, 0, 4096 * (t.val % 4)] := by simp only [off1_facts t]
    intro a
    refine Eq.trans ?_ (congrArg (· + (i a).val) (congrFun hk a).symm)
    fin_cases a
    · show 0 = 0 + (i 0).val; omega
    · show (i 1).val = 0 + (i 1).val; omega
    · rfl
  · unfold iblk ldx
    blk_ext [idx_facts t, pb, pt]

/-- The load from window 1 is the tile's rows. -/
theorem iblk1 (c : Dev nD) (t : Fin cfg0.N) : View.ld (iblk m c 1 t) (Rect.unit (s := S1x4x16896) (k0_off2 (grid0.coords t)) S1x4x4608.size (k0_off2_inb _))
    = ldy (V m c main_v3) (pb t) (pt t) := by
  funext i
  have b1 : (i 1).val < 4 := (i 1).isLt
  have b2 : (i 2).val < 4608 := (i 2).isLt
  refine (View.ld_unit_apply_of _ _ _ _ i (ix3 (0 : Fin 1) (⟨(i 1).val, b1⟩ : Fin 4) (⟨4096 * (t.val % 4) + (i 2).val, by omega⟩ : Fin 16896)) ?_).trans ?_
  · have b0 : (i 0).val < 1 := (i 0).isLt
    have hk : k0_off2 (grid0.coords t) = ![0, 0, 4096 * (t.val % 4)] := by simp only [off1_facts t]
    intro a
    refine Eq.trans ?_ (congrArg (· + (i a).val) (congrFun hk a).symm)
    fin_cases a
    · show 0 = 0 + (i 0).val; omega
    · show (i 1).val = 0 + (i 1).val; omega
    · rfl
  · unfold iblk ldy
    blk_ext [idx_facts t, pb, pt]

set_option maxHeartbeats 1000000 in
/-- What a grid point leaves in the block of transformed points. -/
theorem outs8 (c : Dev nD) (t : Fin cfg0.N) : (outsAt0 m c t).1 = outV (View.ld (iblk m c 0 t) (Rect.unit (s := S1x12x16896) (k0_off1 (grid0.coords t)) S1x12x4608.size (k0_off1_inb _)))
    (View.ld (iblk m c 1 t) (Rect.unit (s := S1x4x16896) (k0_off2 (grid0.coords t)) S1x4x4608.size (k0_off2_inb _)))
    (iblk m c 2 t) (iblk m c 3 t) (iblk m c 4 t) (iblk m c 5 t) (iblk m c 6 t) (iblk m c 7 t) (BitVec.ofNat 32 (grid0.coords t 1).val) := by
  unfold outsAt0
  dsimp only
  frame_out
  rfl

set_option maxHeartbeats 1000000 in
/-- What a grid point leaves in the block of logarithms. -/
theorem outs9 (c : Dev nD) (t : Fin cfg0.N) : (outsAt0 m c t).2 = ladV (View.ld (iblk m c 0 t) (Rect.unit (s := S1x12x16896) (k0_off1 (grid0.coords t)) S1x12x4608.size (k0_off1_inb _)))
    (View.ld (iblk m c 1 t) (Rect.unit (s := S1x4x16896) (k0_off2 (grid0.coords t)) S1x4x4608.size (k0_off2_inb _)))
    (iblk m c 2 t) (iblk m c 3 t) (iblk m c 4 t) (iblk m c 5 t) (iblk m c 6 t) (iblk m c 7 t) (BitVec.ofNat 32 (grid0.coords t 1).val) := by
  unfold outsAt0
  dsimp only
  frame_out
  rfl

/-- The transformed points of a tile. -/
def tileOut (c : Dev nD) (b : Fin 16) (q : Fin 4) : FVec Ideal S1x12x4096 .f32 :=
  outV (ldx (V m c main_v1) b q) (ldy (V m c main_v3) b q) (V m c main_v28) (V m c main_v29) (V m c main_v30) (V m c main_v31) (V m c main_v70) (V m c main_v71) (BitVec.ofNat 32 q.val)

/-- The logarithms of a tile. -/
def tileLad (c : Dev nD) (b : Fin 16) (q : Fin 4) : FVec Ideal S1x1x1x4096 .f32 :=
  ladV (ldx (V m c main_v1) b q) (ldy (V m c main_v3) b q) (V m c main_v28) (V m c main_v29) (V m c main_v30) (V m c main_v31) (V m c main_v70) (V m c main_v71) (BitVec.ofNat 32 q.val)

/-- The transformed points the region leaves. -/
def A8 (c : Dev nD) : FVec Ideal S16x12x16384 .f32 := fun i =>
  tileOut m c (i 0) ⟨(i 2).val / 4096, by have : (i 2).val < 16384 := (i 2).isLt; omega⟩ (ix3 0 (i 1) ⟨(i 2).val % 4096, by omega⟩)

/-- The logarithms the region leaves. -/
def A9 (c : Dev nD) : FVec Ideal S16x4x1x4096 .f32 := fun i => tileLad m c (i 0) (i 1) (ix4 0 0 0 (i 3))

/-- A tile's point in the array. -/
theorem A8_at (c : Dev nD) (i : S16x12x16384.Idx) (b : Fin 16) (q : Fin 4) (ch : Fin 12) (l : Fin 4096) (h0 : (i 0).val = b.val) (h1 : (i 1).val = ch.val)
    (h2 : (i 2).val = 4096 * q.val + l.val) : A8 m c i = tileOut m c b q (ix3 0 ch l) := by
  have e0 : i 0 = b := Fin.ext h0
  have e1 : i 1 = ch := Fin.ext h1
  have e2 : ∀ h, (⟨(i 2).val / 4096, h⟩ : Fin 4) = q := fun h => Fin.ext (by show (i 2).val / 4096 = _; omega)
  have e3 : ∀ h, (⟨(i 2).val % 4096, h⟩ : Fin 4096) = l := fun h => Fin.ext (by show (i 2).val % 4096 = _; omega)
  unfold A8
  rw [e2, e3, e0, e1]

/-- A tile's logarithm in the array. -/
theorem A9_at (c : Dev nD) (i : S16x4x1x4096.Idx) (b : Fin 16) (q : Fin 4) (l : Fin 4096) (h0 : (i 0).val = b.val) (h1 : (i 1).val = q.val)
    (h2 : (i 3).val = l.val) : A9 m c i = tileLad m c b q (ix4 0 0 0 l) := by
  have e0 : i 0 = b := Fin.ext h0
  have e1 : i 1 = q := Fin.ext h1
  have e3 : i 3 = l := Fin.ext h2
  unfold A9
  rw [e0, e1, e3]

/-- After the run the array of transformed points is the tiles'. -/
theorem final8 (c : Dev nD) : (dats m 0 c).arrAt 8 (cfgs 0).N = A8 m c := by
  refine (dats m 0 c).arrAt_eq_of_covers 8 _ (by decide +kernel) fun t _ y => ?_
  blk_simp
  rw [after0_8, outs8, iblk0, iblk1, iblk2, iblk3, iblk4, iblk5, iblk6, iblk7, show BitVec.ofNat 32 (grid0.coords t 1).val = BitVec.ofNat 32 (pt t).val from (off1_facts t).2.2]
  have b0 : (y 0).val < 1 := (y 0).isLt
  have b1 : (y 1).val < 12 := (y 1).isLt
  have b2 : (y 2).val < 4096 := (y 2).isLt
  refine Eq.trans ?_ (A8_at m c _ (pb t) (pt t) ⟨(y 1).val, b1⟩ ⟨(y 2).val, b2⟩ ?_ ?_ ?_).symm
  · exact congrArg (tileOut m c (pb t) (pt t)) (funext fun a => by
      fin_cases a
      · exact Fin.ext (by show (y 0).val = 0; omega)
      · rfl
      · rfl)
  · blk_simp [idx_facts t, pb, pt]
    try omega
  · blk_simp [idx_facts t, pb, pt]
    try omega
  · blk_simp [idx_facts t]
    show t.val % 4 * 4096 + (y 2).val = 4096 * (t.val % 4) + (y 2).val
    omega

/-- After the run the array of logarithms is the tiles'. -/
theorem final9 (c : Dev nD) : (dats m 0 c).arrAt 9 (cfgs 0).N = A9 m c := by
  refine (dats m 0 c).arrAt_eq_of_covers 9 _ (by decide +kernel) fun t _ y => ?_
  blk_simp
  rw [after0_9, outs9, iblk0, iblk1, iblk2, iblk3, iblk4, iblk5, iblk6, iblk7, show BitVec.ofNat 32 (grid0.coords t 1).val = BitVec.ofNat 32 (pt t).val from (off1_facts t).2.2]
  have b0 : (y 0).val < 1 := (y 0).isLt
  have b1 : (y 1).val < 1 := (y 1).isLt
  have b2 : (y 2).val < 1 := (y 2).isLt
  have b3 : (y 3).val < 4096 := (y 3).isLt
  refine Eq.trans ?_ (A9_at m c _ (pb t) (pt t) ⟨(y 3).val, b3⟩ ?_ ?_ ?_).symm
  · exact congrArg (tileLad m c (pb t) (pt t)) (funext fun a => by
      fin_cases a
      · exact Fin.ext (by show (y 0).val = 0; omega)
      · exact Fin.ext (by show (y 1).val = 0; omega)
      · exact Fin.ext (by show (y 2).val = 0; omega)
      · rfl)
  · blk_simp [idx_facts t, pb, pt]
    try omega
  · blk_simp [idx_facts t, pb, pt]
    try omega
  · blk_simp [idx_facts t, pb, pt]
    try omega

end Cert.KernelIdeal.Body

end
-- ==== Proof.Run.lean ====
module

public import proofs.«01_k».proof.Proof.Blocks
public import Idealize.ShloMosaic.Lib.StableHlo.RunRead
public import Idealize.ShloMosaic.Lib.Claim

@[expose] public section

set_option maxRecDepth 65536

noncomputable section

namespace Cert.KernelIdeal.Body

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The first result, from the points the region leaves. -/
def R0 (c : Dev nD) : FVec Ideal S16x12x128x128 .f32 := shapeCast S16x12x128x128 (A8 m c) shapeCasts_S16x12x16384_S16x12x128x128

/-- The second result, from the logarithms the region leaves. -/
def R1 (c : Dev nD) : FVec Ideal S16 .f32 :=
  addf (m ((c : Thread nD τ).loc main_arg1)) (Host.reduceAdd (A9 m c) (constant S_ .f32 0x00000000#32) reducesTo_S16x4x1x4096_S16_d1_2_3 h_S_)

/-- The arrays when the region ends: the points. -/
theorem with8 (c : Dev nD) : Pipeline.withArrays (cfgs 0).spec c (V0 m c) (fun w => (dats m 0 c).arrAt w (cfgs 0).N) (Proc.devRef .tc main_v72_0) = A8 m c :=
  (Pipeline.withArrays_arr (cfgs 0).spec (by decide) c (V0 m c) _ 8).trans (final8 m c)

/-- The arrays when the region ends: the logarithms. -/
theorem with9 (c : Dev nD) : Pipeline.withArrays (cfgs 0).spec c (V0 m c) (fun w => (dats m 0 c).arrAt w (cfgs 0).N) (Proc.devRef .tc main_v72_1) = A9 m c :=
  (Pipeline.withArrays_arr (cfgs 0).spec (by decide) c (V0 m c) _ 9).trans (final9 m c)

/-- The arrays when the region ends: the second argument is as launched. -/
theorem with1 (c : Dev nD) : Pipeline.withArrays (cfgs 0).spec c (V0 m c) (fun w => (dats m 0 c).arrAt w (cfgs 0).N) (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- What the lines after the region leave of the first result. -/
theorem tail0 (c : Dev nD) : Pipeline.afterTail₀ cfgs (dats m) 0 (V0 m) [hostOps1] c main_v73 = R0 m c := by
  unfold Pipeline.afterTail₀ R0
  have h8 := with8 m c
  generalize Pipeline.withArrays (cfgs 0).spec c (V0 m c) (fun w => (dats m 0 c).arrAt w (cfgs 0).N) = W at h8 ⊢
  simp only [hostOps1, List.flatten_cons, List.flatten_nil, List.append_nil, List.cons_append, List.nil_append]
  after_reads_simp
  rw [h8]
  rfl

/-- What the lines after the region leave of the second result. -/
theorem tail1 (c : Dev nD) : Pipeline.afterTail₀ cfgs (dats m) 0 (V0 m) [hostOps1] c main_v75 = R1 m c := by
  unfold Pipeline.afterTail₀ R1
  have h9 := with9 m c
  have h1 := with1 m c
  generalize Pipeline.withArrays (cfgs 0).spec c (V0 m c) (fun w => (dats m 0 c).arrAt w (cfgs 0).N) = W at h9 h1 ⊢
  simp only [hostOps1, List.flatten_cons, List.flatten_nil, List.append_nil, List.cons_append, List.nil_append]
  after_reads_simp
  rw [h9, h1]

/-- A run of the kernel's program ends with the two results and the arguments as launched. -/
theorem run : θ_run defs (onTc (τ := τ) (main (F := Ideal))) ⟨m, fun _ => 0, ρ⟩ fun r => ∀ c : Dev nD,
      r.2.mem ((c : Thread nD τ).loc main_v73) = R0 m c
      ∧ r.2.mem ((c : Thread nD τ).loc main_v75) = R1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (θ_run_and (run_main m ρ) (unchanged m ρ))
  have hr := (h.1 c).2
  exact ⟨(hr main_v73 (Pipeline.mem_restRefs_of main_v73 (by decide) (by decide))).trans (tail0 m c),
    (hr main_v75 (Pipeline.mem_restRefs_of main_v75 (by decide) (by decide))).trans (tail1 m c), h.2 c⟩

end Cert.KernelIdeal.Body
end
-- ==== Proof.Entry.lean ====
module

public import proofs.«01_k».proof.Proof.Gen.KernelIdeal.Frame
public import Idealize.ShloMosaic.Lib.StableHlo.RunRead
public import Idealize.ShloMosaic.Lib.Claim
public import Idealize.ShloMosaic.Lib.Pointwise

@[expose] public section

set_option maxRecDepth 65536

noncomputable section

namespace Cert.KernelIdeal.Entry

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ)

/-- A function of three arguments respects equality. -/
theorem congr3 {α β γ δ : Type} (f : α → β → γ → δ) {a a' : α} {b b' : β} {c c' : γ} (ha : a = a') (hb : b = b') (hc : c = c') :
    f a b c = f a' b' c' := by rw [ha, hb, hc]

/-- The padded image, its rows laid end to end. -/
def xpV (x : FVec Ideal S16x12x128x128 .f32) : FVec Ideal S16x12x16896 .f32 :=
  shapeCast S16x12x16896 (pad S16x12x132x128 ![0, 0, 2, 0] ![0, 0, 2, 0] ![0, 0, 0, 0] x (sitofp .f32 (constantI S_ 32 0#32)) pads_S16x12x128x128_S16x12x132x128_000_000_220_000 h_S_) shapeCasts_S16x12x132x128_S16x12x16896

/-- The table of rows. -/
def tabV : IVec S288x1 32 :=
  broadcastInDim S288x1 ![0] bcast_S288_S288x1_0
            (select (constantI S288 1 0#1)
              (addi (fun i => lit0 (S288.rowMajor i)) (broadcastInDim S288 ![] bcast_S_S288 (constantI S_ 32 277#32)))
              fun i => lit0 (S288.rowMajor i))

/-- The last bias, its rows in the kernel's order. -/
def b3V (b : FVec Ideal S276 .f32) : FVec Ideal S288x1 .f32 :=
  shapeCast S288x1 (Host.gather gather_S277_S288x1_S288_n_0_n_n_0_1_1
          (concatenate S277 0 [⟨S276, b⟩, ⟨S1, broadcastInDim S1 ![] bcast_S_S1 (constant S_ .f32 0x00000000#32)⟩]
            concatenates_S276_S1_S277_d0) tabV) shapeCasts_S288_S288x1

/-- The padded conditioning image, its rows laid end to end. -/
def cpV (x : FVec Ideal S16x4x128x128 .f32) : FVec Ideal S16x4x16896 .f32 :=
  shapeCast S16x4x16896 (pad S16x4x132x128 ![0, 0, 2, 0] ![0, 0, 2, 0] ![0, 0, 0, 0] x (sitofp .f32 (constantI S_ 32 0#32)) pads_S16x4x128x128_S16x4x132x128_000_000_220_000 h_S_) shapeCasts_S16x4x132x128_S16x4x16896

/-- The last weights, their rows in the kernel's order. -/
def w3g (w : FVec Ideal S276x64x3x3 .f32) : FVec Ideal S288x64x3x3 .f32 :=
  Host.gather gather_S277x64x3x3_S288x1_S288x64x3x3_123_0_n_n_0_1_16433
    (concatenate S277x64x3x3 0 [⟨S276x64x3x3, w⟩, ⟨S1x64x3x3, broadcastInDim S1x64x3x3 ![] bcast_S_S1x64x3x3 (constant S_ .f32 0x00000000#32)⟩]
      concatenates_S276x64x3x3_S1x64x3x3_S277x64x3x3_d0) tabV

/-- A slice of the first weights: one row and one column of the filter. -/
def w1s (w : FVec Ideal S64x16x3x3 .f32) (o : Fin 4 → ℕ) (h : S64x16x3x3.Slices o S64x16x1x1) : FVec Ideal S64x16 .f32 :=
  shapeCast S64x16 (extractStridedSlice S64x16x1x1 o w h) shapeCasts_S64x16x1x1_S64x16

/-- The first weights, the filter's rows laid along the columns. -/
def w1V (w : FVec Ideal S64x16x3x3 .f32) : FVec Ideal S3x64x48 .f32 :=
  concatenate S3x64x48 0
    [⟨S1x64x48, broadcastInDim S1x64x48 ![1, 2] bcast_S64x48_S1x64x48_1_2 (concatenate S64x48 1
      [⟨S64x16, w1s w ![0, 0, 0, 0] slices_S64x16x3x3_S64x16x1x1_0_0_0_0⟩, ⟨S64x16, w1s w ![0, 0, 1, 0] slices_S64x16x3x3_S64x16x1x1_0_0_1_0⟩,
       ⟨S64x16, w1s w ![0, 0, 2, 0] slices_S64x16x3x3_S64x16x1x1_0_0_2_0⟩] concatenates_S64x16_S64x16_S64x16_S64x48_d1)⟩,
     ⟨S1x64x48, broadcastInDim S1x64x48 ![1, 2] bcast_S64x48_S1x64x48_1_2 (concatenate S64x48 1
      [⟨S64x16, w1s w ![0, 0, 0, 1] slices_S64x16x3x3_S64x16x1x1_0_0_0_1⟩, ⟨S64x16, w1s w ![0, 0, 1, 1] slices_S64x16x3x3_S64x16x1x1_0_0_1_1⟩,
       ⟨S64x16, w1s w ![0, 0, 2, 1] slices_S64x16x3x3_S64x16x1x1_0_0_2_1⟩] concatenates_S64x16_S64x16_S64x16_S64x48_d1)⟩,
     ⟨S1x64x48, broadcastInDim S1x64x48 ![1, 2] bcast_S64x48_S1x64x48_1_2 (concatenate S64x48 1
      [⟨S64x16, w1s w ![0, 0, 0, 2] slices_S64x16x3x3_S64x16x1x1_0_0_0_2⟩, ⟨S64x16, w1s w ![0, 0, 1, 2] slices_S64x16x3x3_S64x16x1x1_0_0_1_2⟩,
       ⟨S64x16, w1s w ![0, 0, 2, 2] slices_S64x16x3x3_S64x16x1x1_0_0_2_2⟩] concatenates_S64x16_S64x16_S64x16_S64x48_d1)⟩]
    concatenates_S1x64x48_S1x64x48_S1x64x48_S3x64x48_d0

/-- A slice of the last weights: one row and one column of the filter. -/
def w3s (w : FVec Ideal S288x64x3x3 .f32) (o : Fin 4 → ℕ) (h : S288x64x3x3.Slices o S288x64x1x1) : FVec Ideal S288x64 .f32 :=
  shapeCast S288x64 (extractStridedSlice S288x64x1x1 o w h) shapeCasts_S288x64x1x1_S288x64

/-- The last weights, the filter's rows laid along the columns. -/
def w3V (w : FVec Ideal S288x64x3x3 .f32) : FVec Ideal S3x288x192 .f32 :=
  concatenate S3x288x192 0
    [⟨S1x288x192, broadcastInDim S1x288x192 ![1, 2] bcast_S288x192_S1x288x192_1_2 (concatenate S288x192 1
      [⟨S288x64, w3s w ![0, 0, 0, 0] slices_S288x64x3x3_S288x64x1x1_0_0_0_0⟩, ⟨S288x64, w3s w ![0, 0, 1, 0] slices_S288x64x3x3_S288x64x1x1_0_0_1_0⟩,
       ⟨S288x64, w3s w ![0, 0, 2, 0] slices_S288x64x3x3_S288x64x1x1_0_0_2_0⟩] concatenates_S288x64_S288x64_S288x64_S288x192_d1)⟩,
     ⟨S1x288x192, broadcastInDim S1x288x192 ![1, 2] bcast_S288x192_S1x288x192_1_2 (concatenate S288x192 1
      [⟨S288x64, w3s w ![0, 0, 0, 1] slices_S288x64x3x3_S288x64x1x1_0_0_0_1⟩, ⟨S288x64, w3s w ![0, 0, 1, 1] slices_S288x64x3x3_S288x64x1x1_0_0_1_1⟩,
       ⟨S288x64, w3s w ![0, 0, 2, 1] slices_S288x64x3x3_S288x64x1x1_0_0_2_1⟩] concatenates_S288x64_S288x64_S288x64_S288x192_d1)⟩,
     ⟨S1x288x192, broadcastInDim S1x288x192 ![1, 2] bcast_S288x192_S1x288x192_1_2 (concatenate S288x192 1
      [⟨S288x64, w3s w ![0, 0, 0, 2] slices_S288x64x3x3_S288x64x1x1_0_0_0_2⟩, ⟨S288x64, w3s w ![0, 0, 1, 2] slices_S288x64x3x3_S288x64x1x1_0_0_1_2⟩,
       ⟨S288x64, w3s w ![0, 0, 2, 2] slices_S288x64x3x3_S288x64x1x1_0_0_2_2⟩] concatenates_S288x64_S288x64_S288x64_S288x192_d1)⟩]
    concatenates_S1x288x192_S1x288x192_S1x288x192_S3x288x192_d0

/-- The region finds the padded image. -/
theorem V_v1 (c : Dev nD) : V m c main_v1 = xpV (m ((c : Thread nD τ).loc main_arg0)) := by
  unfold V V0
  simp only [List.flatten_cons, List.flatten_nil, List.append_nil, StableHlo.after_append]
  after_reads_simp
  rfl

/-- The region finds the padded conditioning image. -/
theorem V_v3 (c : Dev nD) : V m c main_v3 = cpV (m ((c : Thread nD τ).loc main_arg2)) := by
  unfold V V0
  simp only [List.flatten_cons, List.flatten_nil, List.append_nil, StableHlo.after_append]
  after_reads_simp
  rfl

/-- The region finds the first bias as a column. -/
theorem V_v29 (c : Dev nD) : V m c main_v29 = shapeCast S64x1 (m ((c : Thread nD τ).loc main_arg4)) shapeCasts_S64_S64x1 := by
  unfold V V0
  simp only [List.flatten_cons, List.flatten_nil, List.append_nil, StableHlo.after_append]
  after_reads_simp
  rfl

/-- The region finds the second weights as a matrix. -/
theorem V_v30 (c : Dev nD) : V m c main_v30 = shapeCast S64x64 (m ((c : Thread nD τ).loc main_arg5)) shapeCasts_S64x64x1x1_S64x64 := by
  unfold V V0
  simp only [List.flatten_cons, List.flatten_nil, List.append_nil, StableHlo.after_append]
  after_reads_simp
  rfl

/-- The region finds the second bias as a column. -/
theorem V_v31 (c : Dev nD) : V m c main_v31 = shapeCast S64x1 (m ((c : Thread nD τ).loc main_arg6)) shapeCasts_S64_S64x1 := by
  unfold V V0
  simp only [List.flatten_cons, List.flatten_nil, List.append_nil, StableHlo.after_append]
  after_reads_simp
  rfl

/-- The region finds the last bias in the order of its rows. -/
theorem V_v71 (c : Dev nD) : V m c main_v71 = b3V (m ((c : Thread nD τ).loc main_arg8)) := by
  unfold V V0
  simp only [List.flatten_cons, List.flatten_nil, List.append_nil, StableHlo.after_append]
  after_reads_simp
  rfl

/-- The region finds the first weights by columns of the filter. -/
theorem V_v28 (c : Dev nD) : V m c main_v28 = w1V (m ((c : Thread nD τ).loc main_arg3)) := by
  unfold V V0
  simp only [List.flatten_cons, List.flatten_nil, List.append_nil, StableHlo.after_append]
  after_reads_simp
  refine congr3 (fun a b c => concatenate S3x64x48 0 [⟨S1x64x48, a⟩, ⟨S1x64x48, b⟩, ⟨S1x64x48, c⟩]
      concatenates_S1x64x48_S1x64x48_S1x64x48_S3x64x48_d0) ?_ ?_ ?_
  · show StableHlo.upto hostOps0_4 _ 25 (Proc.tc.devRef main_v25) = _
    after_reads_simp
    rfl
  · show StableHlo.upto hostOps0_4 _ 25 (Proc.tc.devRef main_v26) = _
    after_reads_simp
    rfl
  · show StableHlo.upto hostOps0_4 _ 25 (Proc.tc.devRef main_v27) = _
    after_reads_simp
    rfl

set_option maxHeartbeats 1000000 in
/-- The region finds the last weights by columns of the filter. -/
theorem V_v70 (c : Dev nD) : V m c main_v70 = w3V (w3g (m ((c : Thread nD τ).loc main_arg7))) := by
  unfold V V0
  simp only [List.flatten_cons, List.flatten_nil, List.append_nil, StableHlo.after_append]
  after_reads_simp
  refine congr3 (fun a b c => concatenate S3x288x192 0 [⟨S1x288x192, a⟩, ⟨S1x288x192, b⟩, ⟨S1x288x192, c⟩]
      concatenates_S1x288x192_S1x288x192_S1x288x192_S3x288x192_d0) ?_ ?_ ?_
  · show StableHlo.upto hostOps0_4 _ 71 (Proc.tc.devRef main_v67) = _
    after_reads_simp
    refine congrArg (broadcastInDim S1x288x192 ![1, 2] bcast_S288x192_S1x288x192_1_2) (congr3 (fun a b c => concatenate S288x192 1 [⟨S288x64, a⟩, ⟨S288x64, b⟩, ⟨S288x64, c⟩]
      concatenates_S288x64_S288x64_S288x64_S288x192_d1) ?_ ?_ ?_)
    · show StableHlo.upto hostOps0_4 _ _ (Proc.tc.devRef main_v47) = _
      after_reads_simp
      rfl
    · show StableHlo.upto hostOps0_4 _ _ (Proc.tc.devRef main_v49) = _
      after_reads_simp
      rfl
    · show StableHlo.upto hostOps0_4 _ _ (Proc.tc.devRef main_v51) = _
      after_reads_simp
      rfl
  · show StableHlo.upto hostOps0_4 _ 71 (Proc.tc.devRef main_v68) = _
    after_reads_simp
    refine congrArg (broadcastInDim S1x288x192 ![1, 2] bcast_S288x192_S1x288x192_1_2) (congr3 (fun a b c => concatenate S288x192 1 [⟨S288x64, a⟩, ⟨S288x64, b⟩, ⟨S288x64, c⟩]
      concatenates_S288x64_S288x64_S288x64_S288x192_d1) ?_ ?_ ?_)
    · show StableHlo.upto hostOps0_4 _ _ (Proc.tc.devRef main_v54) = _
      after_reads_simp
      rfl
    · show StableHlo.upto hostOps0_4 _ _ (Proc.tc.devRef main_v56) = _
      after_reads_simp
      rfl
    · show StableHlo.upto hostOps0_4 _ _ (Proc.tc.devRef main_v58) = _
      after_reads_simp
      rfl
  · show StableHlo.upto hostOps0_4 _ 71 (Proc.tc.devRef main_v69) = _
    after_reads_simp
    refine congrArg (broadcastInDim S1x288x192 ![1, 2] bcast_S288x192_S1x288x192_1_2) (congr3 (fun a b c => concatenate S288x192 1 [⟨S288x64, a⟩, ⟨S288x64, b⟩, ⟨S288x64, c⟩]
      concatenates_S288x64_S288x64_S288x64_S288x192_d1) ?_ ?_ ?_)
    · show StableHlo.upto hostOps0_4 _ _ (Proc.tc.devRef main_v61) = _
      after_reads_simp
      rfl
    · show StableHlo.upto hostOps0_4 _ _ (Proc.tc.devRef main_v63) = _
      after_reads_simp
      rfl
    · show StableHlo.upto hostOps0_4 _ _ (Proc.tc.devRef main_v65) = _
      after_reads_simp
      rfl

end Cert.KernelIdeal.Entry

end
-- ==== Proof.HostAt.lean ====
module

public import proofs.«01_k».proof.Proof.Entry
public import proofs.«01_k».proof.Proof.Spline
public import Idealize.ShloMosaic.Lib.Pointwise
public import Idealize.ShloMosaic.Lib.StableHlo.Predicate

@[expose] public section

set_option maxRecDepth 65536

noncomputable section

namespace Cert.KernelIdeal.Entry

open Idealize.ShloMosaic Idealize.ShloMosaic.TcCoe Idealize.ShloMosaic.Tactic Idealize.SL.Sem
open Cert.KernelIdeal Cert.KernelIdeal.Gen

/-- The integer zero as a number. -/
theorem sitofp_zero : (FloatOps.sitofp (F := Ideal) .f32 (0#32) : EReal) = 0 := by
  show (((0#32 : BitVec 32).toInt : ℝ) : EReal) = 0
  simp

/-- The padded image at a lane: the image two rows up, zero on the padding rows. -/
theorem xpV_at (x : FVec Ideal S16x12x128x128 .f32) (b : Fin 16) (X : ℕ → ℕ → ℕ → EReal)
    (hX : ∀ (c : Fin 12) (h w : Fin 128), x (ix4 b c h w) = X c.val h.val w.val) (c : Fin 12) (l : Fin 16896) :
    xpV x (ix3 b c l) = if 2 ≤ l.val / 128 ∧ l.val / 128 < 130 then X c.val (l.val / 128 - 2) (l.val % 128) else 0 := by
  pointwise [xpV]
  by_cases h : 2 ≤ l.val / 128 ∧ l.val / 128 < 130
  · rw [dif_pos ⟨⟨h.1, by omega⟩, by omega⟩, hX, if_pos h]
  · rw [dif_neg (fun q => h ⟨q.1.1, by omega⟩), if_neg h, sitofp_zero]

/-- The padded conditioning image at a lane. -/
theorem cpV_at (x : FVec Ideal S16x4x128x128 .f32) (b : Fin 16) (X : ℕ → ℕ → ℕ → EReal)
    (hX : ∀ (c : Fin 4) (h w : Fin 128), x (ix4 b c h w) = X c.val h.val w.val) (c : Fin 4) (l : Fin 16896) :
    cpV x (ix3 b c l) = if 2 ≤ l.val / 128 ∧ l.val / 128 < 130 then X c.val (l.val / 128 - 2) (l.val % 128) else 0 := by
  pointwise [cpV]
  by_cases h : 2 ≤ l.val / 128 ∧ l.val / 128 < 130
  · rw [dif_pos ⟨⟨h.1, by omega⟩, by omega⟩, hX, if_pos h]
  · rw [dif_neg (fun q => h ⟨q.1.1, by omega⟩), if_neg h, sitofp_zero]

/-- A filter's entry depends on its coordinates alone. -/
theorem tap_congr {O C : ℕ} (w : FVec Ideal ⟨4, ![O, C, 3, 3]⟩ .f32) (o : Fin O) {c c' : Fin C} {a a' b b' : Fin 3} (hc : c.val = c'.val) (ha : a.val = a'.val)
    (hb : b.val = b'.val) : w (ix4 o c a b) = w (ix4 o c' a' b') := by
  rw [Fin.ext hc, Fin.ext ha, Fin.ext hb]

/-- The first weights as laid out, at a filter column, an output channel, and a filter row with an input channel. -/
theorem w1V_at (w : FVec Ideal S64x16x3x3 .f32) (dx : Fin 3) (o : Fin 64) (dy : Fin 3) (c : Fin 16) (q : Fin 48) (hq : q.val = dy.val * 16 + c.val) :
    w1V w (ix3 dx o q) = w (ix4 o c dy dx) := by
  have h1 := dx.isLt
  have h2 := dy.isLt
  have h3 := c.isLt
  pointwise [w1V, w1s]
  split_ifs <;> exact tap_congr w o (by first | omega | (show _ = _; simp; omega)) (by first | (simp; omega)) (by first | (simp; omega))

/-- The last weights as laid out, at a filter column, a row, and a filter row with an input channel. -/
theorem w3V_at (w : FVec Ideal S288x64x3x3 .f32) (dx : Fin 3) (r : Fin 288) (dy : Fin 3) (o : Fin 64) (q : Fin 192) (hq : q.val = dy.val * 64 + o.val) :
    w3V w (ix3 dx r q) = w (ix4 r o dy dx) := by
  have h1 := dx.isLt
  have h2 := dy.isLt
  have h3 := o.isLt
  pointwise [w3V, w3s]
  split_ifs <;> exact tap_congr w r (by first | omega | (show _ = _; simp; omega)) (by first | (simp; omega)) (by first | (simp; omega))

/-- The table of rows at a row. -/
theorem tabV_at (r : Fin 288) : tabV (ix2 r (0 : Fin 1)) = lit0 r := by
  pointwise [tabV]
  exact congrArg lit0 (Fin.ext (Shape.rowMajor_val_one _))

/-- A row of a take of blocks along the first axis. -/
theorem gather_block {α : Type} (x : S277x64x3x3.Idx → α) (idx : IVec S288x1 32) (r : Fin 288) (o : Fin 64) (p q : Fin 3) (b : Fin 277)
    (hb : idx (ix2 r (0 : Fin 1)) = BitVec.ofNat 32 b.val) :
    Host.gather gather_S277x64x3x3_S288x1_S288x64x3x3_123_0_n_n_0_1_16433 x idx (ix4 r o p q) = x (ix4 b o p q) := by
  unfold Host.gather
  refine congrArg x (funext fun a => Fin.ext ?_)
  have hB : ∀ a' : Fin 4, a' ∉ gather_S277x64x3x3_S288x1_S288x64x3x3_123_0_n_n_0_1_16433.operandBatchingDims := fun a' => List.not_mem_nil
  match a with
  | ⟨0, _⟩ =>
    show GatherDims.start _ (ix4 r o p q) idx 0 + GatherDims.batchCoord _ (ix4 r o p q) 0 + GatherDims.offCoord _ (ix4 r o p q) 0 = b.val
    rw [GatherDims.batchCoord_eq_zero _ _ _ (hB 0), GatherDims.offCoord_eq_zero _ _ _ (by decide)]
    unfold GatherDims.start
    rw [dif_pos (by decide)]
    have e : GatherDims.siIdx gather_S277x64x3x3_S288x1_S288x64x3x3_123_0_n_n_0_1_16433 (ix4 r o p q) ⟨List.idxOf (0 : Fin 4) [0], by decide⟩ = ix2 r (0 : Fin 1) := by
      funext c
      match c with
      | ⟨0, _⟩ => rfl
      | ⟨1, _⟩ => rfl
    have e' := (congrArg idx e).trans hb
    have hl := b.isLt
    refine (congrArg (fun v : BitVec 32 => min v.toInt.toNat 276 + 0 + 0) e').trans ?_
    simp only [StableHlo.Predicate.toInt_ofNat_small _ (show b.val < 2 ^ 31 by omega)]
    omega
  | ⟨1, _⟩ =>
    have e : ∀ X : Fin 4, X = 1 → (ix4 r o p q X).val = o.val := fun X h => by subst h; rfl
    show GatherDims.start _ (ix4 r o p q) idx 1 + GatherDims.batchCoord _ (ix4 r o p q) 1 + GatherDims.offCoord _ (ix4 r o p q) 1 = o.val
    rw [GatherDims.batchCoord_eq_zero _ _ _ (hB 1)]
    unfold GatherDims.start GatherDims.offCoord
    rw [dif_neg (by decide), dif_pos (by decide)]
    exact (Nat.zero_add _).trans (e _ (by decide))
  | ⟨2, _⟩ =>
    have e : ∀ X : Fin 4, X = 2 → (ix4 r o p q X).val = p.val := fun X h => by subst h; rfl
    show GatherDims.start _ (ix4 r o p q) idx 2 + GatherDims.batchCoord _ (ix4 r o p q) 2 + GatherDims.offCoord _ (ix4 r o p q) 2 = p.val
    rw [GatherDims.batchCoord_eq_zero _ _ _ (hB 2)]
    unfold GatherDims.start GatherDims.offCoord
    rw [dif_neg (by decide), dif_pos (by decide)]
    exact (Nat.zero_add _).trans (e _ (by decide))
  | ⟨3, _⟩ =>
    have e : ∀ X : Fin 4, X = 3 → (ix4 r o p q X).val = q.val := fun X h => by subst h; rfl
    show GatherDims.start _ (ix4 r o p q) idx 3 + GatherDims.batchCoord _ (ix4 r o p q) 3 + GatherDims.offCoord _ (ix4 r o p q) 3 = q.val
    rw [GatherDims.batchCoord_eq_zero _ _ _ (hB 3)]
    unfold GatherDims.start GatherDims.offCoord
    rw [dif_neg (by decide), dif_pos (by decide)]
    exact (Nat.zero_add _).trans (e _ (by decide))

/-- A row of the last weights is the row the table names. -/
theorem w3g_at (w : FVec Ideal S276x64x3x3 .f32) (r : Fin 288) (o : Fin 64) (p q : Fin 3) (b : Fin 276)
    (hb : lit0 r = BitVec.ofNat 32 b.val) : w3g w (ix4 r o p q) = w (ix4 b o p q) := by
  rw [w3g, gather_block _ _ r o p q ⟨b.val, by omega⟩ ((tabV_at r).trans hb)]
  pointwise

/-- An entry of a take along the only axis. -/
theorem gather_entry {α : Type} (x : S277.Idx → α) (idx : IVec S288x1 32) (r : Fin 288) (b : Fin 277)
    (hb : idx (ix2 r (0 : Fin 1)) = BitVec.ofNat 32 b.val) :
    Host.gather gather_S277_S288x1_S288_n_0_n_n_0_1_1 x idx (ix1 r) = x (ix1 b) := by
  unfold Host.gather
  refine congrArg x (funext fun a => Fin.ext ?_)
  have hB : ∀ a' : Fin 1, a' ∉ gather_S277_S288x1_S288_n_0_n_n_0_1_1.operandBatchingDims := fun a' => List.not_mem_nil
  match a with
  | ⟨0, _⟩ =>
    show GatherDims.start _ (ix1 r) idx 0 + GatherDims.batchCoord _ (ix1 r) 0 + GatherDims.offCoord _ (ix1 r) 0 = b.val
    rw [GatherDims.batchCoord_eq_zero _ _ _ (hB 0), GatherDims.offCoord_eq_zero _ _ _ (by decide)]
    unfold GatherDims.start
    rw [dif_pos (by decide)]
    have e : GatherDims.siIdx gather_S277_S288x1_S288_n_0_n_n_0_1_1 (ix1 r) ⟨List.idxOf (0 : Fin 1) [0], by decide⟩ = ix2 r (0 : Fin 1) := by
      funext c
      match c with
      | ⟨0, _⟩ => rfl
      | ⟨1, _⟩ => rfl
    have e' := (congrArg idx e).trans hb
    have hl := b.isLt
    refine (congrArg (fun v : BitVec 32 => min v.toInt.toNat 276 + 0 + 0) e').trans ?_
    simp only [StableHlo.Predicate.toInt_ofNat_small _ (show b.val < 2 ^ 31 by omega)]
    omega

/-- An entry of the last bias is the entry the table names. -/
theorem b3V_at (w : FVec Ideal S276 .f32) (r : Fin 288) (b : Fin 276) (hb : lit0 r = BitVec.ofNat 32 b.val) :
    b3V w (ix2 r (0 : Fin 1)) = w (ix1 b) := by
  pointwise [b3V]
  refine (gather_entry _ _ r ⟨b.val, by omega⟩ ((tabV_at r).trans hb)).trans ?_
  pointwise

/-- The table's rows of the first group. -/
theorem lit0_P (c : Fin 12) (k : Fin 8) : lit0 ⟨c.val * 8 + k.val, by omega⟩ = BitVec.ofNat 32 (c.val * 23 + k.val) := by
  revert c k; decide +kernel

/-- The table's rows of the second group. -/
theorem lit0_Q (c : Fin 12) (k : Fin 8) : lit0 ⟨(c.val + 12) * 8 + k.val, by omega⟩ = BitVec.ofNat 32 (c.val * 23 + 8 + k.val) := by
  revert c k; decide +kernel

/-- The table's rows of the third group. -/
theorem lit0_D (c : Fin 12) (k : Fin 7) : lit0 ⟨192 + (c.val * 8 + k.val), by omega⟩ = BitVec.ofNat 32 (c.val * 23 + 16 + k.val) := by
  revert c k; decide +kernel

/-- The first bias as a column. -/
theorem b1V_at (w : FVec Ideal S64 .f32) (o : Fin 64) : shapeCast S64x1 w shapeCasts_S64_S64x1 (ix2 o (0 : Fin 1)) = w (ix1 o) := by
  pointwise

/-- The second weights as a matrix. -/
theorem w2V_at (w : FVec Ideal S64x64x1x1 .f32) (o k : Fin 64) :
    shapeCast S64x64 w shapeCasts_S64x64x1x1_S64x64 (ix2 o k) = w (ix4 o k (0 : Fin 1) (0 : Fin 1)) := by
  pointwise

end Cert.KernelIdeal.Entry

end
-- ==== Proof.Goal.lean ====
module

public import proofs.«01_k».proof.Proof.Spec
public import Idealize.ShloMosaic.Lib.IdealHost
public import Idealize.ShloMosaic.Lib.Pointwise

@[expose] public section

set_option maxRecDepth 65536

noncomputable section

namespace Cert.Spline

open Idealize.ShloMosaic

/-- An image with its indices as numbers, zero outside. -/
def nat3 {C : ℕ} (x : Fin C → Fin 128 → Fin 128 → EReal) (c h w : ℕ) : EReal :=
  if q : c < C ∧ h < 128 ∧ w < 128 then x ⟨c, q.1⟩ ⟨h, q.2.1⟩ ⟨w, q.2.2⟩ else 0

/-- At an index inside, it is the image. -/
theorem nat3_at {C : ℕ} (x : Fin C → Fin 128 → Fin 128 → EReal) (c : Fin C) (h w : Fin 128) : x c h w = nat3 x c.val h.val w.val := by
  rw [nat3, dif_pos ⟨c.isLt, h.isLt, w.isLt⟩]

/-- The arguments for one image: the image, its conditioning channels, and the network's weights and biases. -/
structure Args where
  /-- The image. -/
  x : Fin 12 → Fin 128 → Fin 128 → EReal
  /-- The conditioning channels. -/
  y : Fin 4 → Fin 128 → Fin 128 → EReal
  /-- The first layer's weights. -/
  w1 : Fin 64 → Fin 16 → Fin 3 → Fin 3 → EReal
  /-- The first layer's bias. -/
  b1 : Fin 64 → EReal
  /-- The second layer's weights. -/
  w2 : Fin 64 → Fin 64 → EReal
  /-- The second layer's bias. -/
  b2 : Fin 64 → EReal
  /-- The last layer's weights. -/
  w3 : Fin 276 → Fin 64 → Fin 3 → Fin 3 → EReal
  /-- The last layer's bias. -/
  b3 : Fin 276 → EReal

/-- The hidden layers. -/
def Args.hid (a : Args) : Fin 64 → ℕ → ℕ → EReal := hidB (zin (nat3 a.x) (nat3 a.y)) a.w1 a.b1 a.w2 a.b2

/-- The network's output channel `p` at row `h` and column `w`. -/
def Args.net (a : Args) (h w p : ℕ) : EReal := if q : p < 276 then conv3 a.hid (a.w3 ⟨p, q⟩) (a.b3 ⟨p, q⟩) h w else 0

/-- The network's output at a channel. -/
theorem Args.net_at (a : Args) (h w : ℕ) (p : Fin 276) : conv3 a.hid (a.w3 p) (a.b3 p) h w = a.net h w p.val := by
  rw [Args.net, dif_pos p.isLt]

/-- The first result at a point: the frozen half plus the spline of the other half. -/
def Args.out (a : Args) (c h w : ℕ) : EReal :=
  outP (fun j => a.net h w (c * 23 + j)) (fun j => a.net h w (c * 23 + (8 + j))) (fun j => a.net h w (c * 23 + (16 + j))) (nat3 a.x c h w) (h + w)

/-- The logarithm of the derivative at a point. -/
def Args.lad (a : Args) (c h w : ℕ) : EReal :=
  ladP (fun j => a.net h w (c * 23 + j)) (fun j => a.net h w (c * 23 + (8 + j))) (fun j => a.net h w (c * 23 + (16 + j))) (nat3 a.x c h w) (h + w)

/-- The sum of the logarithms over an image. -/
def Args.tot (a : Args) : EReal := ∑ c : Fin 12, ∑ h : Fin 128, ∑ w : Fin 128, a.lad c.val h.val w.val

/-- One image's arguments, from the arrays. -/
def argsOf (x0 : FVec Ideal ⟨4, ![16, 12, 128, 128]⟩ .f32) (x2 : FVec Ideal ⟨4, ![16, 4, 128, 128]⟩ .f32) (x3 : FVec Ideal ⟨4, ![64, 16, 3, 3]⟩ .f32)
    (x4 : FVec Ideal ⟨1, ![64]⟩ .f32) (x5 : FVec Ideal ⟨4, ![64, 64, 1, 1]⟩ .f32) (x6 : FVec Ideal ⟨1, ![64]⟩ .f32)
    (x7 : FVec Ideal ⟨4, ![276, 64, 3, 3]⟩ .f32) (x8 : FVec Ideal ⟨1, ![276]⟩ .f32) (b : Fin 16) : Args where
  x := fun c h w => x0 (ix4 b c h w)
  y := fun c h w => x2 (ix4 b c h w)
  w1 := fun o c dy dx => x3 (ix4 o c dy dx)
  b1 := fun o => x4 (ix1 o)
  w2 := fun o k => x5 (ix4 o k 0 0)
  b2 := fun o => x6 (ix1 o)
  w3 := fun p o dy dx => x7 (ix4 p o dy dx)
  b3 := fun p => x8 (ix1 p)

/-- The derivatives read seven parameters. -/
theorem der_congr {d d' : ℕ → EReal} (h : ∀ j, j < 7 → d j = d' j) : der d = der d' := by
  funext n
  rw [der, der]
  by_cases h0 : n = 0
  · rw [if_pos h0, if_pos h0]
  · by_cases h8 : 8 ≤ n
    · rw [if_neg h0, if_neg h0, if_pos h8, if_pos h8]
    · rw [if_neg h0, if_neg h0, if_neg h8, if_neg h8, h _ (by omega)]

/-- The result at a point reads eight parameters of each of the first two groups and seven of the third. -/
theorem outP_congr {P P' Q Q' d d' : ℕ → EReal} {x x' : EReal} {n : ℕ} (hP : ∀ j, j < 8 → P j = P' j) (hQ : ∀ j, j < 8 → Q j = Q' j)
    (hd : ∀ j, j < 7 → d j = d' j) (hx : x = x') : outP P Q d x n = outP P' Q' d' x' n := by
  have e1 : (fun j : Fin 8 => P j.val) = fun j => P' j.val := funext fun j => hP j.val j.isLt
  have e2 : (fun j : Fin 8 => Q j.val) = fun j => Q' j.val := funext fun j => hQ j.val j.isLt
  rw [outP, outP, e1, e2, der_congr hd, hx]

/-- The logarithm at a point reads the same parameters. -/
theorem ladP_congr {P P' Q Q' d d' : ℕ → EReal} {x x' : EReal} {n : ℕ} (hP : ∀ j, j < 8 → P j = P' j) (hQ : ∀ j, j < 8 → Q j = Q' j)
    (hd : ∀ j, j < 7 → d j = d' j) (hx : x = x') : ladP P Q d x n = ladP P' Q' d' x' n := by
  have e1 : (fun j : Fin 8 => P j.val) = fun j => P' j.val := funext fun j => hP j.val j.isLt
  have e2 : (fun j : Fin 8 => Q j.val) = fun j => Q' j.val := funext fun j => hQ j.val j.isLt
  rw [ladP, ladP, e1, e2, der_congr hd, hx]

/-- A host sum over the last three of four axes. -/
theorem sum_last3 {A B C D : ℕ} (h : (⟨4, ![A, B, C, D]⟩ : Shape).ReducesTo [1, 2, 3] ⟨1, ![A]⟩) (x : (⟨4, ![A, B, C, D]⟩ : Shape).Idx → EReal) (init : EReal) (p : Fin A) :
    Ideal.hostReduceAdd h x init (ix1 p) = init + ∑ q : Fin B, ∑ r : Fin C, ∑ s : Fin D, x (ix4 p q r s) := by
  have hd : ∀ i, h.drop i = ix1 p ↔ i 0 = p := fun i => by
    constructor
    · intro e
      exact congrFun e 0
    · intro e
      funext k
      obtain rfl : k = 0 := Subsingleton.elim _ _
      exact e
  unfold Ideal.hostReduceAdd
  refine congrArg (init + ·) ?_
  have e : (∑ q : Fin B, ∑ r : Fin C, ∑ s : Fin D, x (ix4 p q r s)) = ∑ k : Fin B × Fin C × Fin D, x (ix4 p k.1 k.2.1 k.2.2) := by
    rw [Fintype.sum_prod_type]
    refine Finset.sum_congr rfl fun q _ => ?_
    rw [Fintype.sum_prod_type]
  rw [e]
  refine Finset.sum_bij' (fun i _ => ((i 1, i 2, i 3) : Fin B × Fin C × Fin D)) (fun k _ => ix4 p k.1 k.2.1 k.2.2) (fun _ _ => Finset.mem_univ _)
    (fun k _ => Finset.mem_filter.2 ⟨Finset.mem_univ _, (hd _).2 rfl⟩) (fun i hi => ?_) (fun k _ => rfl) (fun i hi => ?_)
  · have e0 : i 0 = p := (hd i).1 (Finset.mem_filter.1 hi).2
    subst e0
    funext k
    fin_cases k <;> rfl
  · have e0 : i 0 = p := (hd i).1 (Finset.mem_filter.1 hi).2
    subst e0
    refine congrArg x (funext fun k => ?_)
    fin_cases k <;> rfl

/-- A sum over the tiles, their lanes and the channels is the sum over the image. -/
theorem sum_tiles (f : ℕ → ℕ → ℕ → EReal) :
    (∑ q : Fin 4, ∑ l : Fin 4096, ∑ c : Fin 12, f c.val (32 * q.val + l.val / 128) (l.val % 128)) = ∑ c : Fin 12, ∑ h : Fin 128, ∑ w : Fin 128, f c.val h.val w.val := by
  have hl : ∀ (q : Fin 4) (c : Fin 12), (∑ l : Fin 4096, f c.val (32 * q.val + l.val / 128) (l.val % 128)) = ∑ r : Fin 32, ∑ w : Fin 128, f c.val (32 * q.val + r.val) w.val := by
    intro q c
    rw [← Equiv.sum_comp (finProdFinEquiv (m := 32) (n := 128)), Fintype.sum_prod_type]
    refine Finset.sum_congr rfl fun r _ => Finset.sum_congr rfl fun w _ => ?_
    have e : (finProdFinEquiv (m := 32) (n := 128) (r, w)).val = w.val + 128 * r.val := rfl
    have := w.isLt
    have h1 : (w.val + 128 * r.val) / 128 = r.val := by omega
    have h2 : (w.val + 128 * r.val) % 128 = w.val := by omega
    rw [e, h1, h2]
  have hq : ∀ c : Fin 12, (∑ q : Fin 4, ∑ r : Fin 32, ∑ w : Fin 128, f c.val (32 * q.val + r.val) w.val) = ∑ h : Fin 128, ∑ w : Fin 128, f c.val h.val w.val := by
    intro c
    rw [← Equiv.sum_comp (finProdFinEquiv (m := 4) (n := 32)) (fun h : Fin 128 => ∑ w : Fin 128, f c.val h.val w.val), Fintype.sum_prod_type]
    refine Finset.sum_congr rfl fun q _ => Finset.sum_congr rfl fun r _ => ?_
    have e : (finProdFinEquiv (m := 4) (n := 32) (q, r)).val = r.val + 32 * q.val := rfl
    rw [e, Nat.add_comm]
  calc _ = ∑ q : Fin 4, ∑ c : Fin 12, ∑ r : Fin 32, ∑ w : Fin 128, f c.val (32 * q.val + r.val) w.val := by
        refine Finset.sum_congr rfl fun q _ => ?_
        rw [Finset.sum_comm]
        exact Finset.sum_congr rfl fun c _ => hl q c
    _ = ∑ c : Fin 12, ∑ q : Fin 4, ∑ r : Fin 32, ∑ w : Fin 128, f c.val (32 * q.val + r.val) w.val := Finset.sum_comm
    _ = _ := Finset.sum_congr rfl fun c _ => hq c

end Cert.Spline
end
-- ==== Proof.Point.lean ====
module

public import proofs.«01_k».proof.Proof.Run
public import proofs.«01_k».proof.Proof.HostAt
public import proofs.«01_k».proof.Proof.Goal
public import Idealize.ShloMosaic.Lib.StableHlo.RunRead
public import Idealize.ShloMosaic.Lib.Claim

@[expose] public section

set_option maxRecDepth 65536

noncomputable section

namespace Cert.KernelIdeal.Body

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Entry
open Cert.Spline

variable (m : (ℓ : Loc nD τ sig) → Buf (Elt Ideal) ℓ)

/-- One image's arguments, from the memory at launch. -/
def kargs (d : Dev nD) (b : Fin 16) : Args := argsOf (m ((d : Thread nD τ).loc main_arg0)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) b

variable (d : Dev nD) (b : Fin 16) (q : Fin 4)

/-- What a tile's loads hold. -/
theorem tile : Tile (ldx (V m d main_v1) b q) (ldy (V m d main_v3) b q) (nat3 (kargs m d b).x) (nat3 (kargs m d b).y) q where
  x := fun c l => by
    rw [V_v1]
    have e1 : (4096 * q.val + l.val) / 128 = 32 * q.val + l.val / 128 := by omega
    have e2 : (4096 * q.val + l.val) % 128 = l.val % 128 := by omega
    refine (xpV_at _ b (nat3 (kargs m d b).x) (fun c h w => nat3_at (kargs m d b).x c h w) c ⟨4096 * q.val + l.val, by omega⟩).trans ?_
    simp only [e1, e2]
  y := fun c l => by
    rw [V_v3]
    have e1 : (4096 * q.val + l.val) / 128 = 32 * q.val + l.val / 128 := by omega
    have e2 : (4096 * q.val + l.val) % 128 = l.val % 128 := by omega
    refine (cpV_at _ b (nat3 (kargs m d b).y) (fun c h w => nat3_at (kargs m d b).y c h w) c ⟨4096 * q.val + l.val, by omega⟩).trans ?_
    simp only [e1, e2]

/-- A row of a tile's parameters is the network's output channel the table names. -/
theorem row_net (r : ℕ) (hr : r < 288) (p : ℕ) (hp : p < 276) (e : lit0 ⟨r, hr⟩ = BitVec.ofNat 32 p) (h w : ℕ) :
    trow (V m d main_v28) (V m d main_v29) (V m d main_v30) (V m d main_v31) (V m d main_v70) (V m d main_v71) (nat3 (kargs m d b).x) (nat3 (kargs m d b).y) h w r = (kargs m d b).net h w p := by
  rw [trow, dif_pos hr, tprm, Args.net, dif_pos hp]
  have h1 : (fun (o : Fin 64) (c : Fin 16) (dy dx : Fin 3) => V m d main_v28 (ix3 dx o (⟨dy.val * 16 + c.val, by omega⟩ : Fin 48))) = (kargs m d b).w1 := by
    funext o c dy dx
    rw [V_v28]
    exact w1V_at _ dx o dy c _ rfl
  have h2 : (fun o : Fin 64 => V m d main_v29 (ix2 o 0)) = (kargs m d b).b1 := by
    funext o
    rw [V_v29]
    exact b1V_at _ o
  have h3 : (fun o k : Fin 64 => V m d main_v30 (ix2 o k)) = (kargs m d b).w2 := by
    funext o k
    rw [V_v30]
    exact w2V_at _ o k
  have h4 : (fun o : Fin 64 => V m d main_v31 (ix2 o 0)) = (kargs m d b).b2 := by
    funext o
    rw [V_v31]
    exact b1V_at _ o
  have h5 : (fun (o : Fin 64) (dy dx : Fin 3) => V m d main_v70 (ix3 dx (⟨r, hr⟩ : Fin 288) (⟨dy.val * 64 + o.val, by omega⟩ : Fin 192))) = (kargs m d b).w3 ⟨p, hp⟩ := by
    funext o dy dx
    rw [V_v70]
    exact (w3V_at _ dx ⟨r, hr⟩ dy o _ rfl).trans (w3g_at _ ⟨r, hr⟩ o dy dx ⟨p, hp⟩ e)
  have h6 : V m d main_v71 (ix2 (⟨r, hr⟩ : Fin 288) 0) = (kargs m d b).b3 ⟨p, hp⟩ := by
    rw [V_v71]
    exact b3V_at _ ⟨r, hr⟩ ⟨p, hp⟩ e
  rw [h1, h2, h3, h4, h5, h6]
  rfl

/-- A tile's transformed point. -/
theorem tileOut_at (c : Fin 12) (l : Fin 4096) : tileOut m d b q (ix3 0 c l) = (kargs m d b).out c.val (32 * q.val + l.val / 128) (l.val % 128) := by
  unfold tileOut
  refine ((tile m d b q).out _ _ _ _ _ _ c l).trans ?_
  refine outP_congr (fun j hj => row_net m d b _ (by omega) _ (by omega) (lit0_P c ⟨j, hj⟩) _ _) (fun j hj => row_net m d b _ (by omega) _ (by omega) ?_ _ _)
    (fun j hj => row_net m d b _ (by omega) _ (by omega) ?_ _ _) rfl
  · rw [lit0_Q c ⟨j, hj⟩, Nat.add_assoc]
  · rw [lit0_D c ⟨j, hj⟩, Nat.add_assoc]

/-- A tile's logarithms at a lane, added over the channels. -/
theorem tileLad_at (l : Fin 4096) : tileLad m d b q (ix4 0 0 0 l) = ∑ c : Fin 12, (kargs m d b).lad c.val (32 * q.val + l.val / 128) (l.val % 128) := by
  unfold tileLad
  refine ((tile m d b q).lad _ _ _ _ _ _ l).trans (Finset.sum_congr rfl fun c _ => ?_)
  refine ladP_congr (fun j hj => row_net m d b _ (by omega) _ (by omega) (lit0_P c ⟨j, hj⟩) _ _) (fun j hj => row_net m d b _ (by omega) _ (by omega) ?_ _ _)
    (fun j hj => row_net m d b _ (by omega) _ (by omega) ?_ _ _) rfl
  · rw [lit0_Q c ⟨j, hj⟩, Nat.add_assoc]
  · rw [lit0_D c ⟨j, hj⟩, Nat.add_assoc]

/-- The first result at a point. -/
theorem R0_at (c : Fin 12) (h w : Fin 128) : R0 m d (ix4 b c h w) = (kargs m d b).out c.val h.val w.val := by
  have e : R0 m d (ix4 b c h w) = A8 m d (ix3 b c (⟨h.val * 128 + w.val, by omega⟩ : Fin 16384)) := by
    pointwise [R0]
  rw [e, A8_at m d _ b (⟨h.val / 32, by omega⟩ : Fin 4) c (⟨(h.val % 32) * 128 + w.val, by omega⟩ : Fin 4096) rfl rfl (by show h.val * 128 + w.val = 4096 * (h.val / 32) + ((h.val % 32) * 128 + w.val); omega),
    tileOut_at]
  have := w.isLt
  congr 1
  · show 32 * (h.val / 32) + (h.val % 32 * 128 + w.val) / 128 = h.val
    omega
  · show (h.val % 32 * 128 + w.val) % 128 = w.val
    omega

/-- What the logarithms are added to, from the memory at launch. -/
def start (d : Dev nD) : S16.Idx → EReal := m ((d : Thread nD τ).loc main_arg1)

/-- The second result at an image. -/
theorem R1_at : R1 m d (ix1 b) = start m d (ix1 b) + (kargs m d b).tot := by
  have e : Host.reduceAdd (A9 m d) (constant S_ .f32 0x00000000#32) reducesTo_S16x4x1x4096_S16_d1_2_3 h_S_ (ix1 b) = (kargs m d b).tot := by
    rw [Idealize.ShloMosaic.ValueIdx.hostReduceAdd_apply]
    refine (sum_last3 _ _ _ b).trans ?_
    refine (congrArg (· + _) (show _ = (0 : EReal) from Ideal.ofBits_zero_f32)).trans ((zero_add _).trans ?_)
    refine Eq.trans ?_ (sum_tiles (kargs m d b).lad)
    refine Finset.sum_congr rfl fun q _ => ?_
    rw [Fin.sum_univ_one]
    exact Finset.sum_congr rfl fun l _ => (A9_at m d _ b q l rfl rfl rfl).trans (tileLad_at m d b q l)
  exact congrArg (start m d (ix1 b) + ·) e

end Cert.KernelIdeal.Body
end
-- ==== Proof.Ref1.lean ====
module

public import proofs.«01_k».proof.Proof.Gen.ReferenceIdeal.Read
public import proofs.«01_k».proof.Proof.Spec
public import Idealize.ShloMosaic.Lib.Pointwise

@[expose] public section

set_option maxRecDepth 65536

noncomputable section

namespace Cert.ReferenceIdeal.Stage

open Idealize.ShloMosaic Idealize.ShloMosaic.TcCoe
open Cert.ReferenceIdeal Cert.ReferenceIdeal.Gen Cert.ReferenceIdeal.Read
open Cert.Spline

/-- The reference's checkerboard. -/
theorem mask_at (h w : Fin 128) : val_main_v10 (F := Ideal) (ix4 (0 : Fin 1) (0 : Fin 1) h w) = par (h.val + w.val) := by
  pointwise [val_main_v10, val_main_v9, val_main_v8, val_main_v7, val_main_v5, val_main_call0_v12, val_main_call0_v11, val_main_call0_v8, val_main_call0_v4, val_main_v4, val_main_v2, val_main_v0, val_main_v3, val_main_v1, val_main_call0_v3, val_main_call0_v2, val_main_call0_v1, val_main_call0_v0, val_main_c, val_main_call0_c, val_main_call0_c_0, val_main_call0_v7, val_main_call0_c_2, val_main_call0_v10, val_main_call0_v9, val_main_call0_c_3, val_main_call0_v6, val_main_call0_v5, val_main_call0_c_1, val_main_call0_v14, val_main_call0_v13, val_main_v6, val_main_c_0, val_main_call1_v0, val_main_c_1, val_main_call1_v1, val_main_c_2]
  rw [par]
  refine congrArg _ ?_
  have e : IntOp.addi (BitVec.ofNat 32 h.val) (BitVec.ofNat 32 w.val) = BitVec.ofNat 32 (h.val + w.val) := (BitVec.ofNat_add ..).symm
  have hn : h.val + w.val < 256 := by omega
  rw [e]
  clear e
  generalize h.val + w.val = n at hn ⊢
  revert n
  decide +kernel

/-- The frozen half of the image. -/
theorem frozen_at (x0 : FVec Ideal S16x12x128x128 .f32) (b : Fin 16) (c : Fin 12) (h w : Fin 128) : val_main_v12 (F := Ideal) x0 (ix4 b c h w) = x0 (ix4 b c h w) * par (h.val + w.val) := by
  pointwise [val_main_v12, val_main_v11, mask_at]
  exact mul_comm _ _

/-- The other half of the image. -/
theorem active_at (x0 : FVec Ideal S16x12x128x128 .f32) (b : Fin 16) (c : Fin 12) (h w : Fin 128) : val_main_v16 (F := Ideal) x0 (ix4 b c h w) = x0 (ix4 b c h w) * (1 - par (h.val + w.val)) := by
  pointwise [val_main_v16, val_main_v15, val_main_v14, val_main_v13, val_main_cst, mask_at]
  exact mul_comm _ _

/-- The network's input, padded by one. -/
theorem zin_at (x0 : FVec Ideal S16x12x128x128 .f32) (x2 : FVec Ideal S16x4x128x128 .f32) (b : Fin 16) (X Y : ℕ → ℕ → ℕ → EReal)
    (hX : ∀ (c : Fin 12) (h w : Fin 128), x0 (ix4 b c h w) = X c.val h.val w.val)
    (hY : ∀ (c : Fin 4) (h w : Fin 128), x2 (ix4 b c h w) = Y c.val h.val w.val) (c : Fin 16) (r w : Fin 130) :
    val_main_v18 (F := Ideal) x0 x2 (ix4 b c r w) = zin X Y c (r.val + 1) w.val := by
  pointwise [val_main_v18, val_main_v17, val_main_call2_v0, val_main_c_3, frozen_at, hX, hY]
  rw [zin]
  by_cases q : 1 ≤ r.val ∧ r.val < 129 ∧ 1 ≤ w.val ∧ w.val < 129
  · rw [dif_pos ⟨⟨q.1, by omega⟩, by omega, by omega⟩, if_pos ⟨by omega, by omega, by omega, by omega⟩, show r.val + 1 - 2 = r.val - 1 by omega]
    by_cases hc : c.val < 12
    · rw [dif_pos hc, if_pos hc]
    · rw [dif_neg hc, if_neg hc]
  · rw [dif_neg (fun k => q ⟨k.1.1, by omega, by omega, by omega⟩), if_neg (fun k => q ⟨by omega, by omega, by omega, by omega⟩)]
    show (((0#32 : BitVec 32).toInt : ℝ) : EReal) = 0
    simp

/-- The first hidden layer of the reference. -/
theorem hidA_at (x0 : FVec Ideal S16x12x128x128 .f32) (x2 : FVec Ideal S16x4x128x128 .f32) (x3 : FVec Ideal S64x16x3x3 .f32) (x4 : FVec Ideal S64 .f32) (b : Fin 16) (z : Fin 16 → ℕ → ℕ → EReal)
    (hz : ∀ (c : Fin 16) (r w : Fin 130), val_main_v18 (F := Ideal) x0 x2 (ix4 b c r w) = z c (r.val + 1) w.val) (o : Fin 64) (h w : Fin 128) :
    val_main_v77 (F := Ideal) x0 x2 x3 x4 (ix4 b o h w) = hidA z (fun o c dy dx => x3 (ix4 o c dy dx)) (fun o => x4 (ix1 o)) o (h.val + 1) w.val := by
  pointwise [val_main_v77, val_main_v76, val_main_v73, val_main_v67, val_main_v61, val_main_v55, val_main_v49, val_main_v43, val_main_v37, val_main_v31, val_main_v25, val_main_v24, val_main_cst_4, val_main_v23, val_main_v22, val_main_v21, val_main_v20, val_main_v19, val_main_v30, val_main_v29, val_main_v28, val_main_v27, val_main_v26, val_main_v36, val_main_v35, val_main_v34, val_main_v33, val_main_v32, val_main_v42, val_main_v41, val_main_v40, val_main_v39, val_main_v38, val_main_v48, val_main_v47, val_main_v46, val_main_v45, val_main_v44, val_main_v54, val_main_v53, val_main_v52, val_main_v51, val_main_v50, val_main_v60, val_main_v59, val_main_v58, val_main_v57, val_main_v56, val_main_v66, val_main_v65, val_main_v64, val_main_v63, val_main_v62, val_main_v72, val_main_v71, val_main_v70, val_main_v69, val_main_v68, val_main_v75, val_main_v74, val_main_call3_v0, val_main_call3_cst, hz]
  simp only [hidA, Fin.sum_univ_three, mul_comm (x3 _), Fin.val_zero, Fin.val_one, Fin.val_two, add_zero,
    Nat.add_comm 1, Nat.add_comm 2, Nat.add_right_comm _ 2 1]
  refine congrArg (max · 0) (congrArg (· + _) ?_)
  abel

/-- The second hidden layer of the reference. -/
theorem hidB_at (x0 : FVec Ideal S16x12x128x128 .f32) (x2 : FVec Ideal S16x4x128x128 .f32) (x3 : FVec Ideal S64x16x3x3 .f32) (x4 : FVec Ideal S64 .f32)
    (x5 : FVec Ideal S64x64x1x1 .f32) (x6 : FVec Ideal S64 .f32) (b : Fin 16) (z : Fin 16 → ℕ → ℕ → EReal)
    (hz : ∀ (c : Fin 16) (r w : Fin 130), val_main_v18 (F := Ideal) x0 x2 (ix4 b c r w) = z c (r.val + 1) w.val) (o : Fin 64) (r w : Fin 130) :
    val_main_v88 (F := Ideal) x0 x2 x3 x4 x5 x6 (ix4 b o r w) = hidB z (fun o c dy dx => x3 (ix4 o c dy dx)) (fun o => x4 (ix1 o)) (fun o k => x5 (ix4 o k 0 0)) (fun o => x6 (ix1 o)) o r.val w.val := by
  pointwise [val_main_v88, val_main_v87, val_main_v86, val_main_v83, val_main_v82, val_main_cst_6, val_main_v81, val_main_v80, val_main_v78, val_main_call4_v0, val_main_c_5, val_main_v79, val_main_v85, val_main_v84, val_main_call5_v0, val_main_call5_cst, val_main_call6_v0, val_main_c_7, hidA_at x0 x2 x3 x4 b z hz]
  rw [hidB]
  by_cases q : 1 ≤ r.val ∧ r.val < 129 ∧ 1 ≤ w.val ∧ w.val < 129
  · rw [dif_pos ⟨⟨q.1, by omega⟩, by omega, by omega⟩, if_pos q]
    refine congrArg (max · 0) (congrArg (· + _) (Finset.sum_congr rfl fun k _ => ?_))
    rw [dif_pos ⟨by omega, by omega⟩, show r.val - 1 + 1 = r.val by omega]
    exact mul_comm _ _
  · rw [dif_neg (fun k => q ⟨k.1.1, by omega, by omega, by omega⟩), if_neg q]
    show (((0#32 : BitVec 32).toInt : ℝ) : EReal) = 0
    simp

/-- The parameters of the reference. -/
theorem prm_at (x0 : FVec Ideal S16x12x128x128 .f32) (x2 : FVec Ideal S16x4x128x128 .f32) (x3 : FVec Ideal S64x16x3x3 .f32) (x4 : FVec Ideal S64 .f32)
    (x5 : FVec Ideal S64x64x1x1 .f32) (x6 : FVec Ideal S64 .f32) (x7 : FVec Ideal S276x64x3x3 .f32) (x8 : FVec Ideal S276 .f32) (b : Fin 16) (H : Fin 64 → ℕ → ℕ → EReal)
    (hH : ∀ (o : Fin 64) (r w : Fin 130), val_main_v88 (F := Ideal) x0 x2 x3 x4 x5 x6 (ix4 b o r w) = H o r.val w.val) (p : Fin 276) (h w : Fin 128) :
    val_main_v146 (F := Ideal) x0 x2 x3 x4 x5 x6 x7 x8 (ix4 b p h w) = conv3 H (fun o dy dx => x7 (ix4 p o dy dx)) (x8 (ix1 p)) h.val w.val := by
  pointwise [val_main_v146, val_main_v143, val_main_v137, val_main_v131, val_main_v125, val_main_v119, val_main_v113, val_main_v107, val_main_v101, val_main_v95, val_main_v94, val_main_cst_8, val_main_v93, val_main_v92, val_main_v91, val_main_v90, val_main_v89, val_main_v100, val_main_v99, val_main_v98, val_main_v97, val_main_v96, val_main_v106, val_main_v105, val_main_v104, val_main_v103, val_main_v102, val_main_v112, val_main_v111, val_main_v110, val_main_v109, val_main_v108, val_main_v118, val_main_v117, val_main_v116, val_main_v115, val_main_v114, val_main_v124, val_main_v123, val_main_v122, val_main_v121, val_main_v120, val_main_v130, val_main_v129, val_main_v128, val_main_v127, val_main_v126, val_main_v136, val_main_v135, val_main_v134, val_main_v133, val_main_v132, val_main_v142, val_main_v141, val_main_v140, val_main_v139, val_main_v138, val_main_v145, val_main_v144, hH]
  simp only [conv3, Fin.sum_univ_three, mul_comm (x7 _), Fin.val_zero, Fin.val_one, Fin.val_two, add_zero,
    Nat.add_comm 1, Nat.add_comm 2, Nat.add_right_comm _ 2 1]
  refine congrArg (· + _) ?_
  abel

end Cert.ReferenceIdeal.Stage
end
-- ==== Proof.Ref2.lean ====
module

public import proofs.«01_k».proof.Proof.Gen.ReferenceIdeal.Read
public import proofs.«01_k».proof.Proof.Ref1
public import Idealize.ShloMosaic.Lib.Pointwise

@[expose] public section

set_option maxRecDepth 65536

noncomputable section

namespace Cert.ReferenceIdeal.Stage

open Idealize.ShloMosaic Idealize.ShloMosaic.TcCoe
open Cert.ReferenceIdeal Cert.ReferenceIdeal.Gen Cert.ReferenceIdeal.Read
open Cert.Spline

/-- A greatest along the last axis, as a fold. -/
theorem red_max (X : FVec Ideal S16x12x128x128x8 .f32) (i0 : FVec Ideal S_ .f32) (b : Fin 16) (c : Fin 12) (h w : Fin 128) :
    Host.reduce FloatOps.maximumf X i0 reducesTo_S16x12x128x128x8_S16x12x128x128_d4 h_S_ (ix4 b c h w) = Finset.univ.fold max (i0 (Shape.Idx.first h_S_)) (fun k : Fin 8 => X (ix5 b c h w k)) := by
  pointwise

/-- One over a thousand. -/
theorem milli_eq : Ideal.div 1 (Ideal.ofBits .f32 0x447A0000#32) = ((1 / 1000 : ℝ) : EReal) := by
  rw [lit_thousand, Ideal.div_coe (by norm_num), one_mul]

/-- What eight thousandths leave of one. -/
theorem rest_eq : (1 : EReal) - ((1 / 1000 : ℝ) : EReal) * Ideal.ofBits .f32 0x41000000#32 = ((992 / 1000 : ℝ) : EReal) := by
  rw [lit_eight, ← EReal.coe_mul, ← EReal.coe_one, ← EReal.coe_sub]
  norm_num

/-- A leading sum depends on its length alone. -/
theorem sum_len (f : (n : ℕ) → n < 8 → EReal) {m k : ℕ} (e : m = k) (hk : k ≤ 8) :
    (∑ j : Fin m, f j.val (by omega)) = ∑ j : Fin k, f j.val (by omega) := by
  subst e; rfl

variable (x0 : FVec Ideal S16x12x128x128 .f32) (x2 : FVec Ideal S16x4x128x128 .f32) (x3 : FVec Ideal S64x16x3x3 .f32) (x4 : FVec Ideal S64 .f32)
    (x5 : FVec Ideal S64x64x1x1 .f32) (x6 : FVec Ideal S64 .f32) (x7 : FVec Ideal S276x64x3x3 .f32) (x8 : FVec Ideal S276 .f32) (b : Fin 16) (c : Fin 12) (h w : Fin 128)

/-- The raw parameters of the derivatives. -/
theorem grpD_at (j : Fin 7) : val_main_v151 (F := Ideal) x0 x2 x3 x4 x5 x6 x7 x8 (ix5 b c h w j) = val_main_v146 (F := Ideal) x0 x2 x3 x4 x5 x6 x7 x8 (ix4 b ⟨c.val * 23 + (16 + j.val), by omega⟩ h w) := by
  pointwise [val_main_v151, val_main_v148, val_main_v147]

/-- The raw parameters of the widths of a point's bins. -/
theorem grpW_at (j : Fin 8) : val_main_v149 (F := Ideal) x0 x2 x3 x4 x5 x6 x7 x8 (ix5 b c h w j) = val_main_v146 (F := Ideal) x0 x2 x3 x4 x5 x6 x7 x8 (ix4 b ⟨c.val * 23 + j.val, by omega⟩ h w) := by
  pointwise [val_main_v149, val_main_v148, val_main_v147]

/-- The greatest raw parameter of the widths. -/
theorem mxW_at (P : Fin 8 → EReal) (hP : ∀ j, val_main_v149 (F := Ideal) x0 x2 x3 x4 x5 x6 x7 x8 (ix5 b c h w j) = P j) :
    val_main_v162 (F := Ideal) x0 x2 x3 x4 x5 x6 x7 x8 (ix4 b c h w) = mx P := by
  unfold val_main_v162
  rw [red_max, mx]
  simp only [hP]
  rw [val_main_cst_19]
  exact congrArg (fun v => Finset.univ.fold max v P) lit_bot

/-- The exponentials of the widths. -/
theorem exW_at (P : Fin 8 → EReal) (hP : ∀ j, val_main_v149 (F := Ideal) x0 x2 x3 x4 x5 x6 x7 x8 (ix5 b c h w j) = P j) (j : Fin 8) :
    val_main_v168 (F := Ideal) x0 x2 x3 x4 x5 x6 x7 x8 (ix5 b c h w j) = ex P j := by
  have e0 : val_main_v164 (F := Ideal) x0 x2 x3 x4 x5 x6 x7 x8 (ix4 b c h w) = mx P := by
    rw [val_main_v164_apply, mxW_at x0 x2 x3 x4 x5 x6 x7 x8 b c h w P hP, val_main_v163_apply]
    refine (congrArg (fun v : EReal => max v (mx P)) (?_ : _ = (⊥ : EReal))).trans (max_bot_left _)
    exact lit_bot
  have e1 : val_main_v166 (F := Ideal) x0 x2 x3 x4 x5 x6 x7 x8 (ix5 b c h w j) = mx P := by
    pointwise [val_main_v166, val_main_v165, e0]
  rw [val_main_v168_apply, val_main_v167_apply, e1, hP]
  rfl

/-- The sum of the exponentials of the widths. -/
theorem smW_at (P : Fin 8 → EReal) (hP : ∀ j, val_main_v149 (F := Ideal) x0 x2 x3 x4 x5 x6 x7 x8 (ix5 b c h w j) = P j) :
    val_main_v169 (F := Ideal) x0 x2 x3 x4 x5 x6 x7 x8 (ix4 b c h w) = ∑ j, ex P j := by
  pointwise [val_main_v169, val_main_cst_21, exW_at x0 x2 x3 x4 x5 x6 x7 x8 b c h w P hP]

/-- The shares of the widths. -/
theorem prW_at (P : Fin 8 → EReal) (hP : ∀ j, val_main_v149 (F := Ideal) x0 x2 x3 x4 x5 x6 x7 x8 (ix5 b c h w j) = P j) (j : Fin 8) :
    val_main_v172 (F := Ideal) x0 x2 x3 x4 x5 x6 x7 x8 (ix5 b c h w j) = pr P j := by
  pointwise [val_main_v172, val_main_v171, val_main_v170, exW_at x0 x2 x3 x4 x5 x6 x7 x8 b c h w P hP, smW_at x0 x2 x3 x4 x5 x6 x7 x8 b c h w P hP, pr]

/-- The widths, as parts of one. -/
theorem widW_at (P : Fin 8 → EReal) (hP : ∀ j, val_main_v149 (F := Ideal) x0 x2 x3 x4 x5 x6 x7 x8 (ix5 b c h w j) = P j) (j : Fin 8) :
    val_main_v176 (F := Ideal) x0 x2 x3 x4 x5 x6 x7 x8 (ix5 b c h w j) = ((1 / 1000 : ℝ) : EReal) + ((992 / 1000 : ℝ) : EReal) * pr P j := by
  pointwise [val_main_v176, val_main_v175, val_main_v158, val_main_cst_13, val_main_cst_14, val_main_v174, val_main_v173, val_main_v161, val_main_cst_18, val_main_v160, val_main_v159, val_main_cst_15, val_main_cst_16, val_main_cst_17, prW_at x0 x2 x3 x4 x5 x6 x7 x8 b c h w P hP]
  rw [milli_eq, rest_eq]

/-- The running sums of the widths. -/
theorem cumW_at (P : Fin 8 → EReal) (hP : ∀ j, val_main_v176 (F := Ideal) x0 x2 x3 x4 x5 x6 x7 x8 (ix5 b c h w j) = P j) (k : Fin 7) :
    val_main_v198 (F := Ideal) x0 x2 x3 x4 x5 x6 x7 x8 (ix5 b c h w k) = ∑ j : Fin (k.val + 1), P ⟨j.val, by omega⟩ := by
  pointwise [val_main_v198, val_main_v179, val_main_v178, val_main_v177, val_main_cst_22, val_main_v182, val_main_v181, val_main_v180, val_main_cst_23, val_main_v185, val_main_v184, val_main_v183, val_main_cst_24, val_main_v188, val_main_v187, val_main_v186, val_main_cst_25, val_main_v191, val_main_v190, val_main_v189, val_main_cst_26, val_main_v194, val_main_v193, val_main_v192, val_main_cst_27, val_main_v197, val_main_v196, val_main_v195, val_main_cst_28, hP]
  fin_cases k <;> rfl

/-- The edges of the widths. -/
theorem edgeW_at (P : Fin 8 → EReal) (hP : ∀ j, val_main_v149 (F := Ideal) x0 x2 x3 x4 x5 x6 x7 x8 (ix5 b c h w j) = P j) (k : Fin 9) :
    val_main_v205 (F := Ideal) x0 x2 x3 x4 x5 x6 x7 x8 (ix5 b c h w k) = edg P k.val := by
  have e : val_main_v205 (F := Ideal) x0 x2 x3 x4 x5 x6 x7 x8 (ix5 b c h w k) = if k.val < 1 then ((-3 : ℝ) : EReal) else if h1 : k.val - 1 < 7 then
      ((6 : ℝ) : EReal) * (∑ j : Fin (k.val - 1 + 1), (((1 / 1000 : ℝ) : EReal) + ((992 / 1000 : ℝ) : EReal) * pr P ⟨j.val, by omega⟩)) + ((-3 : ℝ) : EReal) else ((3 : ℝ) : EReal) := by
    rw [← lit_six, ← lit_neg_three, ← lit_three]
    pointwise [val_main_v205, val_main_v203, val_main_cst_31, val_main_v202, val_main_v200, val_main_v199, val_main_cst_29, val_main_v201, val_main_cst_30, val_main_v204, val_main_cst_32, cumW_at x0 x2 x3 x4 x5 x6 x7 x8 b c h w _ (widW_at x0 x2 x3 x4 x5 x6 x7 x8 b c h w P hP)]
    rfl
  rw [e]
  rcases Nat.eq_zero_or_pos k.val with h0 | h0
  · rw [if_pos (by omega), edg, if_pos h0]
  · rw [if_neg (by omega)]
    by_cases h8 : k.val < 8
    · rw [dif_pos (by omega), ← edg_ref P k.val h0 h8]
      exact congrArg (fun s : EReal => ((6 : ℝ) : EReal) * s + ((-3 : ℝ) : EReal)) (sum_len (fun n hn => ((1 / 1000 : ℝ) : EReal) + ((992 / 1000 : ℝ) : EReal) * pr P ⟨n, hn⟩) (by omega) (by omega))
    · rw [dif_neg (by omega), edg, if_neg (by omega), if_pos (by omega)]

/-- The raw parameters of the heights of a point's bins. -/
theorem grpH_at (j : Fin 8) : val_main_v150 (F := Ideal) x0 x2 x3 x4 x5 x6 x7 x8 (ix5 b c h w j) = val_main_v146 (F := Ideal) x0 x2 x3 x4 x5 x6 x7 x8 (ix4 b ⟨c.val * 23 + (8 + j.val), by omega⟩ h w) := by
  pointwise [val_main_v150, val_main_v148, val_main_v147]

/-- The greatest raw parameter of the heights. -/
theorem mxH_at (P : Fin 8 → EReal) (hP : ∀ j, val_main_v150 (F := Ideal) x0 x2 x3 x4 x5 x6 x7 x8 (ix5 b c h w j) = P j) :
    val_main_v213 (F := Ideal) x0 x2 x3 x4 x5 x6 x7 x8 (ix4 b c h w) = mx P := by
  unfold val_main_v213
  rw [red_max, mx]
  simp only [hP]
  rw [val_main_cst_39]
  exact congrArg (fun v => Finset.univ.fold max v P) lit_bot

/-- The exponentials of the heights. -/
theorem exH_at (P : Fin 8 → EReal) (hP : ∀ j, val_main_v150 (F := Ideal) x0 x2 x3 x4 x5 x6 x7 x8 (ix5 b c h w j) = P j) (j : Fin 8) :
    val_main_v219 (F := Ideal) x0 x2 x3 x4 x5 x6 x7 x8 (ix5 b c h w j) = ex P j := by
  have e0 : val_main_v215 (F := Ideal) x0 x2 x3 x4 x5 x6 x7 x8 (ix4 b c h w) = mx P := by
    rw [val_main_v215_apply, mxH_at x0 x2 x3 x4 x5 x6 x7 x8 b c h w P hP, val_main_v214_apply]
    refine (congrArg (fun v : EReal => max v (mx P)) (?_ : _ = (⊥ : EReal))).trans (max_bot_left _)
    exact lit_bot
  have e1 : val_main_v217 (F := Ideal) x0 x2 x3 x4 x5 x6 x7 x8 (ix5 b c h w j) = mx P := by
    pointwise [val_main_v217, val_main_v216, e0]
  rw [val_main_v219_apply, val_main_v218_apply, e1, hP]
  rfl

/-- The sum of the exponentials of the heights. -/
theorem smH_at (P : Fin 8 → EReal) (hP : ∀ j, val_main_v150 (F := Ideal) x0 x2 x3 x4 x5 x6 x7 x8 (ix5 b c h w j) = P j) :
    val_main_v220 (F := Ideal) x0 x2 x3 x4 x5 x6 x7 x8 (ix4 b c h w) = ∑ j, ex P j := by
  pointwise [val_main_v220, val_main_cst_41, exH_at x0 x2 x3 x4 x5 x6 x7 x8 b c h w P hP]

/-- The shares of the heights. -/
theorem prH_at (P : Fin 8 → EReal) (hP : ∀ j, val_main_v150 (F := Ideal) x0 x2 x3 x4 x5 x6 x7 x8 (ix5 b c h w j) = P j) (j : Fin 8) :
    val_main_v223 (F := Ideal) x0 x2 x3 x4 x5 x6 x7 x8 (ix5 b c h w j) = pr P j := by
  pointwise [val_main_v223, val_main_v222, val_main_v221, exH_at x0 x2 x3 x4 x5 x6 x7 x8 b c h w P hP, smH_at x0 x2 x3 x4 x5 x6 x7 x8 b c h w P hP, pr]

/-- The heights, as parts of one. -/
theorem widH_at (P : Fin 8 → EReal) (hP : ∀ j, val_main_v150 (F := Ideal) x0 x2 x3 x4 x5 x6 x7 x8 (ix5 b c h w j) = P j) (j : Fin 8) :
    val_main_v227 (F := Ideal) x0 x2 x3 x4 x5 x6 x7 x8 (ix5 b c h w j) = ((1 / 1000 : ℝ) : EReal) + ((992 / 1000 : ℝ) : EReal) * pr P j := by
  pointwise [val_main_v227, val_main_v226, val_main_v209, val_main_cst_33, val_main_cst_34, val_main_v225, val_main_v224, val_main_v212, val_main_cst_38, val_main_v211, val_main_v210, val_main_cst_35, val_main_cst_36, val_main_cst_37, prH_at x0 x2 x3 x4 x5 x6 x7 x8 b c h w P hP]
  rw [milli_eq, rest_eq]

/-- The running sums of the heights. -/
theorem cumH_at (P : Fin 8 → EReal) (hP : ∀ j, val_main_v227 (F := Ideal) x0 x2 x3 x4 x5 x6 x7 x8 (ix5 b c h w j) = P j) (k : Fin 7) :
    val_main_v249 (F := Ideal) x0 x2 x3 x4 x5 x6 x7 x8 (ix5 b c h w k) = ∑ j : Fin (k.val + 1), P ⟨j.val, by omega⟩ := by
  pointwise [val_main_v249, val_main_v230, val_main_v229, val_main_v228, val_main_cst_42, val_main_v233, val_main_v232, val_main_v231, val_main_cst_43, val_main_v236, val_main_v235, val_main_v234, val_main_cst_44, val_main_v239, val_main_v238, val_main_v237, val_main_cst_45, val_main_v242, val_main_v241, val_main_v240, val_main_cst_46, val_main_v245, val_main_v244, val_main_v243, val_main_cst_47, val_main_v248, val_main_v247, val_main_v246, val_main_cst_48, hP]
  fin_cases k <;> rfl

/-- The edges of the heights. -/
theorem edgeH_at (P : Fin 8 → EReal) (hP : ∀ j, val_main_v150 (F := Ideal) x0 x2 x3 x4 x5 x6 x7 x8 (ix5 b c h w j) = P j) (k : Fin 9) :
    val_main_v256 (F := Ideal) x0 x2 x3 x4 x5 x6 x7 x8 (ix5 b c h w k) = edg P k.val := by
  have e : val_main_v256 (F := Ideal) x0 x2 x3 x4 x5 x6 x7 x8 (ix5 b c h w k) = if k.val < 1 then ((-3 : ℝ) : EReal) else if h1 : k.val - 1 < 7 then
      ((6 : ℝ) : EReal) * (∑ j : Fin (k.val - 1 + 1), (((1 / 1000 : ℝ) : EReal) + ((992 / 1000 : ℝ) : EReal) * pr P ⟨j.val, by omega⟩)) + ((-3 : ℝ) : EReal) else ((3 : ℝ) : EReal) := by
    rw [← lit_six, ← lit_neg_three, ← lit_three]
    pointwise [val_main_v256, val_main_v254, val_main_cst_51, val_main_v253, val_main_v251, val_main_v250, val_main_cst_49, val_main_v252, val_main_cst_50, val_main_v255, val_main_cst_52, cumH_at x0 x2 x3 x4 x5 x6 x7 x8 b c h w _ (widH_at x0 x2 x3 x4 x5 x6 x7 x8 b c h w P hP)]
    rfl
  rw [e]
  rcases Nat.eq_zero_or_pos k.val with h0 | h0
  · rw [if_pos (by omega), edg, if_pos h0]
  · rw [if_neg (by omega)]
    by_cases h8 : k.val < 8
    · rw [dif_pos (by omega), ← edg_ref P k.val h0 h8]
      exact congrArg (fun s : EReal => ((6 : ℝ) : EReal) * s + ((-3 : ℝ) : EReal)) (sum_len (fun n hn => ((1 / 1000 : ℝ) : EReal) + ((992 / 1000 : ℝ) : EReal) * pr P ⟨n, hn⟩) (by omega) (by omega))
    · rw [dif_neg (by omega), edg, if_neg (by omega), if_pos (by omega)]

/-- The derivatives at the edges. -/
theorem der_at (P : Fin 7 → EReal) (hP : ∀ j, val_main_v151 (F := Ideal) x0 x2 x3 x4 x5 x6 x7 x8 (ix5 b c h w j) = P j) (d : ℕ → EReal) (hd : ∀ j : Fin 7, d j.val = P j) (k : Fin 9) :
    val_main_v269 (F := Ideal) x0 x2 x3 x4 x5 x6 x7 x8 (ix5 b c h w k) = der d k.val := by
  have e : val_main_v265 (F := Ideal) x0 x2 x3 x4 x5 x6 x7 x8 (ix5 b c h w k) = if k.val < 1 then cst else if h1 : k.val - 1 < 7 then P ⟨k.val - 1, h1⟩ else cst := by
    rw [cst, ← milli_eq]
    pointwise [val_main_v265, val_main_v264, val_main_v263, val_main_v262, val_main_v261, val_main_cst_55, val_main_v260, val_main_cst_53, val_main_cst_54, hP]
    rfl
  have e1 : val_main_v269 (F := Ideal) x0 x2 x3 x4 x5 x6 x7 x8 (ix5 b c h w k) = ((1 / 1000 : ℝ) : EReal) + sp (val_main_v265 (F := Ideal) x0 x2 x3 x4 x5 x6 x7 x8 (ix5 b c h w k)) := by
    generalize hv : val_main_v265 (F := Ideal) x0 x2 x3 x4 x5 x6 x7 x8 (ix5 b c h w k) = v
    rw [← milli_eq]
    pointwise [val_main_v269, val_main_v268, val_main_v266, val_main_cst_56, val_main_cst_57, val_main_v267, val_main_call8_v4, val_main_call8_v3, val_main_call8_v2, val_main_call8_cst, val_main_call8_v6, val_main_call8_v5, val_main_call8_v11, val_main_call8_v1, val_main_call8_v0, val_main_call8_v10, val_main_call8_v9, val_main_call8_v8, val_main_call8_v7, hv]
    rw [if_neg (fun q => q rfl)]
    rfl
  rw [e1, e]
  rcases Nat.eq_zero_or_pos k.val with h0 | h0
  · rw [if_pos (by omega), der, if_pos h0]
    exact cst_one
  · rw [if_neg (by omega), der, if_neg (by omega)]
    by_cases h8 : k.val < 8
    · rw [dif_pos (by omega), if_neg (by omega)]
      exact congrArg (fun v => _ + sp v) (hd ⟨k.val - 1, by omega⟩).symm
    · rw [dif_neg (by omega), if_pos (by omega)]
      exact cst_one

end Cert.ReferenceIdeal.Stage
end
-- ==== Proof.Ref3.lean ====
module

public import proofs.«01_k».proof.Proof.Gen.ReferenceIdeal.Read
public import proofs.«01_k».proof.Proof.Ref2
public import Idealize.ShloMosaic.Lib.Pointwise

@[expose] public section

set_option maxRecDepth 65536

noncomputable section

namespace Cert.ReferenceIdeal.Stage

open Idealize.ShloMosaic Idealize.ShloMosaic.TcCoe
open Cert.ReferenceIdeal Cert.ReferenceIdeal.Gen Cert.ReferenceIdeal.Read
open Cert.Spline

/-- The word the reference counts the edges with, from which edges a point has reached. -/
def idxw (p : Fin 9 → Bool) : BitVec 32 :=
  IntOp.minsi 7#32 (IntOp.maxsi 0#32 (IntOp.subi (IntOp.addi (IntOp.addi (IntOp.addi (IntOp.addi (IntOp.addi (IntOp.addi (IntOp.addi (IntOp.addi (IntOp.addi 0#32
    (BitVec.setWidth 32 (BitVec.ofBool (p 0)))) (BitVec.setWidth 32 (BitVec.ofBool (p 1)))) (BitVec.setWidth 32 (BitVec.ofBool (p 2))))
    (BitVec.setWidth 32 (BitVec.ofBool (p 3)))) (BitVec.setWidth 32 (BitVec.ofBool (p 4)))) (BitVec.setWidth 32 (BitVec.ofBool (p 5))))
    (BitVec.setWidth 32 (BitVec.ofBool (p 6)))) (BitVec.setWidth 32 (BitVec.ofBool (p 7)))) (BitVec.setWidth 32 (BitVec.ofBool (p 8)))) 1#32))

/-- With the first edge reached, the word is the number of the later edges reached, seven at most. -/
theorem idxw_eq (p : Fin 9 → Bool) (h0 : p 0 = true) : idxw p = BitVec.ofNat 32 (min 7 (∑ k : Fin 8, if p k.succ = true then 1 else 0)) := by
  rw [Fin.sum_univ_eight]
  unfold idxw
  rw [h0]
  show _ = BitVec.ofNat 32 (min 7 ((if p 1 = true then 1 else 0) + (if p 2 = true then 1 else 0) + (if p 3 = true then 1 else 0) + (if p 4 = true then 1 else 0)
    + (if p 5 = true then 1 else 0) + (if p 6 = true then 1 else 0) + (if p 7 = true then 1 else 0) + (if p 8 = true then 1 else 0)))
  generalize p 1 = p1, p 2 = p2, p 3 = p3, p 4 = p4, p 5 = p5, p 6 = p6, p 7 = p7, p 8 = p8
  revert p1 p2 p3 p4 p5 p6 p7 p8
  decide +kernel

/-- The clipped point is at or above the interval's lower end. -/
theorem le_clp (x : EReal) : ((-3 : ℝ) : EReal) ≤ clp x := by
  rw [clp, le_min_iff]
  exact ⟨EReal.coe_le_coe_iff.2 (by norm_num), le_max_left _ _⟩

variable (x0 : FVec Ideal S16x12x128x128 .f32) (x2 : FVec Ideal S16x4x128x128 .f32) (x3 : FVec Ideal S64x16x3x3 .f32) (x4 : FVec Ideal S64 .f32)
    (x5 : FVec Ideal S64x64x1x1 .f32) (x6 : FVec Ideal S64 .f32) (x7 : FVec Ideal S276x64x3x3 .f32) (x8 : FVec Ideal S276 .f32) (b : Fin 16) (c : Fin 12) (h w : Fin 128)

/-- The clipped point. -/
theorem clip_at (X : EReal) (hX : val_main_v16 (F := Ideal) x0 (ix4 b c h w) = X) : val_main_v157 (F := Ideal) x0 (ix4 b c h w) = clp X := by
  rw [clp, ← lit_three, ← lit_neg_three]
  pointwise [val_main_v157, val_main_call7_v4, val_main_call7_v3, val_main_cst_12, val_main_call7_v2, val_main_call7_v1, val_main_call7_v0, val_main_cst_11, hX]
  rfl

/-- The bin of a point. -/
theorem idx_at (X : EReal) (hX : val_main_v16 (F := Ideal) x0 (ix4 b c h w) = X) (E : ℕ → EReal) (hE : ∀ k : Fin 9, val_main_v205 (F := Ideal) x0 x2 x3 x4 x5 x6 x7 x8 (ix5 b c h w k) = E k.val)
    (h0 : E 0 = ((-3 : ℝ) : EReal)) : val_main_v319 (F := Ideal) x0 x2 x3 x4 x5 x6 x7 x8 (ix4 b c h w) = BitVec.ofNat 32 (bin E (clp X)) := by
  have e : val_main_v319 (F := Ideal) x0 x2 x3 x4 x5 x6 x7 x8 (ix4 b c h w) = idxw fun k => decide (E k.val ≤ clp X) := by
    have hc := clip_at x0 b c h w X hX
    generalize clp X = Y at hc ⊢
    unfold idxw
    pointwise [val_main_v319, val_main_call9_v4, val_main_call9_v3, val_main_c_61, val_main_call9_v2, val_main_call9_v1, val_main_call9_v0, val_main_c_60, val_main_v318, val_main_v316, val_main_v311, val_main_v306, val_main_v301, val_main_v296, val_main_v291, val_main_v286, val_main_v281, val_main_v276, val_main_v275, val_main_c_58, val_main_v274, val_main_v273, val_main_v272, val_main_v271, val_main_v280, val_main_v279, val_main_v278, val_main_v277, val_main_v285, val_main_v284, val_main_v283, val_main_v282, val_main_v290, val_main_v289, val_main_v288, val_main_v287, val_main_v295, val_main_v294, val_main_v293, val_main_v292, val_main_v300, val_main_v299, val_main_v298, val_main_v297, val_main_v305, val_main_v304, val_main_v303, val_main_v302, val_main_v310, val_main_v309, val_main_v308, val_main_v307, val_main_v315, val_main_v314, val_main_v313, val_main_v312, val_main_v317, val_main_c_59, hc, hE]
    rfl
  rw [e, idxw_eq _ (by rw [decide_eq_true_iff]; exact h0 ▸ le_clp X), bin]
  simp only [decide_eq_true_eq, Fin.val_succ]

/-- The widths of the bins between neighbouring edges. -/
theorem gapW_at (E : ℕ → EReal) (hE : ∀ k : Fin 9, val_main_v205 (F := Ideal) x0 x2 x3 x4 x5 x6 x7 x8 (ix5 b c h w k) = E k.val) (k : Fin 8) :
    val_main_v208 (F := Ideal) x0 x2 x3 x4 x5 x6 x7 x8 (ix5 b c h w k) = E (k.val + 1) - E k.val := by
  pointwise [val_main_v208, val_main_v206, val_main_v207, hE]
  try simp only [Nat.add_comm]

/-- The heights of the bins between neighbouring edges. -/
theorem gapH_at (E : ℕ → EReal) (hE : ∀ k : Fin 9, val_main_v256 (F := Ideal) x0 x2 x3 x4 x5 x6 x7 x8 (ix5 b c h w k) = E k.val) (k : Fin 8) :
    val_main_v259 (F := Ideal) x0 x2 x3 x4 x5 x6 x7 x8 (ix5 b c h w k) = E (k.val + 1) - E k.val := by
  pointwise [val_main_v259, val_main_v257, val_main_v258, hE]
  try simp only [Nat.add_comm]

/-- The mean slopes of the bins. -/
theorem slope_at (E G : ℕ → EReal) (hE : ∀ k : Fin 8, val_main_v208 (F := Ideal) x0 x2 x3 x4 x5 x6 x7 x8 (ix5 b c h w k) = E (k.val + 1) - E k.val)
    (hG : ∀ k : Fin 8, val_main_v259 (F := Ideal) x0 x2 x3 x4 x5 x6 x7 x8 (ix5 b c h w k) = G (k.val + 1) - G k.val) (k : Fin 8) :
    val_main_v270 (F := Ideal) x0 x2 x3 x4 x5 x6 x7 x8 (ix5 b c h w k) = slope E G k.val := by
  pointwise [val_main_v270, hE, hG]
  rfl

/-- The derivatives at the upper edges. -/
theorem derR_at (E : ℕ → EReal) (hE : ∀ k : Fin 9, val_main_v269 (F := Ideal) x0 x2 x3 x4 x5 x6 x7 x8 (ix5 b c h w k) = E k.val) (k : Fin 8) :
    val_main_v542 (F := Ideal) x0 x2 x3 x4 x5 x6 x7 x8 (ix5 b c h w k) = E (k.val + 1) := by
  pointwise [val_main_v542, hE]
  try simp only [Nat.add_comm]

/-- The left edge of a point's bin. -/
theorem selW_at (E : ℕ → EReal) (hE : ∀ k : Fin 9, val_main_v205 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v356 (F := Ideal) x0 x2 x3 x4 x5 x6 x7 x8 (ix4 b c h w) = E n := by
  pointwise [val_main_v356, val_main_v337, val_main_v336, val_main_c_62, val_main_v346, val_main_v339, val_main_v338, val_main_c_63, val_main_v342, val_main_v341, val_main_v340, val_main_c_64, val_main_v321, val_main_v320, val_main_v323, val_main_v322, val_main_v345, val_main_v344, val_main_v343, val_main_c_65, val_main_v325, val_main_v324, val_main_v327, val_main_v326, val_main_v355, val_main_v348, val_main_v347, val_main_c_66, val_main_v351, val_main_v350, val_main_v349, val_main_c_67, val_main_v329, val_main_v328, val_main_v331, val_main_v330, val_main_v354, val_main_v353, val_main_v352, val_main_c_68, val_main_v333, val_main_v332, val_main_v335, val_main_v334, hI, hE]
  interval_cases n <;> rfl

/-- The width of a point's bin. -/
theorem selG_at (E : ℕ → EReal) (hE : ∀ k : Fin 8, val_main_v208 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v393 (F := Ideal) x0 x2 x3 x4 x5 x6 x7 x8 (ix4 b c h w) = E n := by
  pointwise [val_main_v393, val_main_v374, val_main_v373, val_main_c_69, val_main_v383, val_main_v376, val_main_v375, val_main_c_70, val_main_v379, val_main_v378, val_main_v377, val_main_c_71, val_main_v358, val_main_v357, val_main_v360, val_main_v359, val_main_v382, val_main_v381, val_main_v380, val_main_c_72, val_main_v362, val_main_v361, val_main_v364, val_main_v363, val_main_v392, val_main_v385, val_main_v384, val_main_c_73, val_main_v388, val_main_v387, val_main_v386, val_main_c_74, val_main_v366, val_main_v365, val_main_v368, val_main_v367, val_main_v391, val_main_v390, val_main_v389, val_main_c_75, val_main_v370, val_main_v369, val_main_v372, val_main_v371, hI, hE]
  interval_cases n <;> rfl

/-- The lower edge of a point's bin. -/
theorem selH_at (E : ℕ → EReal) (hE : ∀ k : Fin 9, val_main_v256 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v430 (F := Ideal) x0 x2 x3 x4 x5 x6 x7 x8 (ix4 b c h w) = E n := by
  pointwise [val_main_v430, val_main_v411, val_main_v410, val_main_c_76, val_main_v420, val_main_v413, val_main_v412, val_main_c_77, val_main_v416, val_main_v415, val_main_v414, val_main_c_78, val_main_v395, val_main_v394, val_main_v397, val_main_v396, val_main_v419, val_main_v418, val_main_v417, val_main_c_79, val_main_v399, val_main_v398, val_main_v401, val_main_v400, val_main_v429, val_main_v422, val_main_v421, val_main_c_80, val_main_v425, val_main_v424, val_main_v423, val_main_c_81, val_main_v403, val_main_v402, val_main_v405, val_main_v404, val_main_v428, val_main_v427, val_main_v426, val_main_c_82, val_main_v407, val_main_v406, val_main_v409, val_main_v408, hI, hE]
  interval_cases n <;> rfl

/-- The height of a point's bin. -/
theorem selK_at (E : ℕ → EReal) (hE : ∀ k : Fin 8, val_main_v259 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v467 (F := Ideal) x0 x2 x3 x4 x5 x6 x7 x8 (ix4 b c h w) = E n := by
  pointwise [val_main_v467, val_main_v448, val_main_v447, val_main_c_83, val_main_v457, val_main_v450, val_main_v449, val_main_c_84, val_main_v453, val_main_v452, val_main_v451, val_main_c_85, val_main_v432, val_main_v431, val_main_v434, val_main_v433, val_main_v456, val_main_v455, val_main_v454, val_main_c_86, val_main_v436, val_main_v435, val_main_v438, val_main_v437, val_main_v466, val_main_v459, val_main_v458, val_main_c_87, val_main_v462, val_main_v461, val_main_v460, val_main_c_88, val_main_v440, val_main_v439, val_main_v442, val_main_v441, val_main_v465, val_main_v464, val_main_v463, val_main_c_89, val_main_v444, val_main_v443, val_main_v446, val_main_v445, hI, hE]
  interval_cases n <;> rfl

/-- The slope of a point's bin. -/
theorem selS_at (E : ℕ → EReal) (hE : ∀ k : Fin 8, val_main_v270 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v504 (F := Ideal) x0 x2 x3 x4 x5 x6 x7 x8 (ix4 b c h w) = E n := by
  pointwise [val_main_v504, val_main_v485, val_main_v484, val_main_c_90, val_main_v494, val_main_v487, val_main_v486, val_main_c_91, val_main_v490, val_main_v489, val_main_v488, val_main_c_92, val_main_v469, val_main_v468, val_main_v471, val_main_v470, val_main_v493, val_main_v492, val_main_v491, val_main_c_93, val_main_v473, val_main_v472, val_main_v475, val_main_v474, val_main_v503, val_main_v496, val_main_v495, val_main_c_94, val_main_v499, val_main_v498, val_main_v497, val_main_c_95, val_main_v477, val_main_v476, val_main_v479, val_main_v478, val_main_v502, val_main_v501, val_main_v500, val_main_c_96, val_main_v481, val_main_v480, val_main_v483, val_main_v482, hI, hE]
  interval_cases n <;> rfl

/-- The derivative at the left edge. -/
theorem selL_at (E : ℕ → EReal) (hE : ∀ k : Fin 9, val_main_v269 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v541 (F := Ideal) x0 x2 x3 x4 x5 x6 x7 x8 (ix4 b c h w) = E n := by
  pointwise [val_main_v541, val_main_v522, val_main_v521, val_main_c_97, val_main_v531, val_main_v524, val_main_v523, val_main_c_98, val_main_v527, val_main_v526, val_main_v525, val_main_c_99, val_main_v506, val_main_v505, val_main_v508, val_main_v507, val_main_v530, val_main_v529, val_main_v528, val_main_c_100, val_main_v510, val_main_v509, val_main_v512, val_main_v511, val_main_v540, val_main_v533, val_main_v532, val_main_c_101, val_main_v536, val_main_v535, val_main_v534, val_main_c_102, val_main_v514, val_main_v513, val_main_v516, val_main_v515, val_main_v539, val_main_v538, val_main_v537, val_main_c_103, val_main_v518, val_main_v517, val_main_v520, val_main_v519, hI, hE]
  interval_cases n <;> rfl

/-- The derivative at the right edge. -/
theorem selR_at (E : ℕ → EReal) (hE : ∀ k : Fin 8, val_main_v542 (F := Ideal) x0 x2 x3 x4 x5 x6 x7 x8 (ix5 b c h w k) = E k.val) (n : ℕ) (hn : n < 8)
    (hI : val_main_v319 (F := Ideal) x0 x2 x3 x4 x5 x6 x7 x8 (ix4 b c h w) = BitVec.ofNat 32 n) : val_main_v579 (F := Ideal) x0 x2 x3 x4 x5 x6 x7 x8 (ix4 b c h w) = E n := by
  pointwise [val_main_v579, val_main_v560, val_main_v559, val_main_c_104, val_main_v569, val_main_v562, val_main_v561, val_main_c_105, val_main_v565, val_main_v564, val_main_v563, val_main_c_106, val_main_v544, val_main_v543, val_main_v546, val_main_v545, val_main_v568, val_main_v567, val_main_v566, val_main_c_107, val_main_v548, val_main_v547, val_main_v550, val_main_v549, val_main_v578, val_main_v571, val_main_v570, val_main_c_108, val_main_v574, val_main_v573, val_main_v572, val_main_c_109, val_main_v552, val_main_v551, val_main_v554, val_main_v553, val_main_v577, val_main_v576, val_main_v575, val_main_c_110, val_main_v556, val_main_v555, val_main_v558, val_main_v557, hI, hE]
  interval_cases n <;> rfl

/-- The place of a point in its bin. -/
theorem th_at (y a g : EReal) (hy : val_main_v157 (F := Ideal) x0 (ix4 b c h w) = y) (ha : val_main_v356 (F := Ideal) x0 x2 x3 x4 x5 x6 x7 x8 (ix4 b c h w) = a)
    (hg : val_main_v393 (F := Ideal) x0 x2 x3 x4 x5 x6 x7 x8 (ix4 b c h w) = g) : val_main_v581 (F := Ideal) x0 x2 x3 x4 x5 x6 x7 x8 (ix4 b c h w) = Ideal.div (y - a) g := by
  pointwise [val_main_v581, val_main_v580, hy, ha, hg]

/-- The place of a point in its bin times what is left of the bin. -/
theorem tt_at (t : EReal) (ht : val_main_v581 (F := Ideal) x0 x2 x3 x4 x5 x6 x7 x8 (ix4 b c h w) = t) : val_main_v584 (F := Ideal) x0 x2 x3 x4 x5 x6 x7 x8 (ix4 b c h w) = t * (1 - t) := by
  pointwise [val_main_v584, val_main_v583, val_main_v582, val_main_cst_111, ht]

/-- The spline's denominator. -/
theorem den_at (s p q u : EReal) (hs : val_main_v504 (F := Ideal) x0 x2 x3 x4 x5 x6 x7 x8 (ix4 b c h w) = s) (hp : val_main_v541 (F := Ideal) x0 x2 x3 x4 x5 x6 x7 x8 (ix4 b c h w) = p)
    (hq : val_main_v579 (F := Ideal) x0 x2 x3 x4 x5 x6 x7 x8 (ix4 b c h w) = q) (hu : val_main_v584 (F := Ideal) x0 x2 x3 x4 x5 x6 x7 x8 (ix4 b c h w) = u) :
    val_main_v595 (F := Ideal) x0 x2 x3 x4 x5 x6 x7 x8 (ix4 b c h w) = s + (p + q - ((2 : ℝ) : EReal) * s) * u := by
  rw [← lit_two]
  pointwise [val_main_v595, val_main_v594, val_main_v593, val_main_v590, val_main_v592, val_main_v591, val_main_cst_112, hs, hp, hq, hu]

/-- The spline's value. -/
theorem val_at (s p t u l k d : EReal) (hs : val_main_v504 (F := Ideal) x0 x2 x3 x4 x5 x6 x7 x8 (ix4 b c h w) = s) (hp : val_main_v541 (F := Ideal) x0 x2 x3 x4 x5 x6 x7 x8 (ix4 b c h w) = p)
    (ht : val_main_v581 (F := Ideal) x0 x2 x3 x4 x5 x6 x7 x8 (ix4 b c h w) = t) (hu : val_main_v584 (F := Ideal) x0 x2 x3 x4 x5 x6 x7 x8 (ix4 b c h w) = u)
    (hl : val_main_v430 (F := Ideal) x0 x2 x3 x4 x5 x6 x7 x8 (ix4 b c h w) = l) (hk : val_main_v467 (F := Ideal) x0 x2 x3 x4 x5 x6 x7 x8 (ix4 b c h w) = k)
    (hd : val_main_v595 (F := Ideal) x0 x2 x3 x4 x5 x6 x7 x8 (ix4 b c h w) = d) :
    val_main_v597 (F := Ideal) x0 x2 x3 x4 x5 x6 x7 x8 (ix4 b c h w) = l + Ideal.div (k * (s * (t * t) + p * u)) d := by
  pointwise [val_main_v597, val_main_v596, val_main_v589, val_main_v588, val_main_v586, val_main_v585, val_main_v587, hs, hp, ht, hu, hl, hk, hd]

/-- The numerator of the spline's derivative. -/
theorem dnum_at (s p q t u : EReal) (hs : val_main_v504 (F := Ideal) x0 x2 x3 x4 x5 x6 x7 x8 (ix4 b c h w) = s) (hp : val_main_v541 (F := Ideal) x0 x2 x3 x4 x5 x6 x7 x8 (ix4 b c h w) = p)
    (hq : val_main_v579 (F := Ideal) x0 x2 x3 x4 x5 x6 x7 x8 (ix4 b c h w) = q) (ht : val_main_v581 (F := Ideal) x0 x2 x3 x4 x5 x6 x7 x8 (ix4 b c h w) = t) (hu : val_main_v584 (F := Ideal) x0 x2 x3 x4 x5 x6 x7 x8 (ix4 b c h w) = u) :
    val_main_v610 (F := Ideal) x0 x2 x3 x4 x5 x6 x7 x8 (ix4 b c h w) = (s * s) * (q * (t * t) + ((2 : ℝ) : EReal) * s * u + p * ((1 - t) * (1 - t))) := by
  rw [← lit_two]
  pointwise [val_main_v610, val_main_v598, val_main_v609, val_main_v604, val_main_v600, val_main_v599, val_main_v603, val_main_v602, val_main_v601, val_main_cst_113, val_main_v608, val_main_v607, val_main_v606, val_main_v605, val_main_cst_114, hs, hp, hq, ht, hu]

/-- The logarithm of the spline's derivative. -/
theorem log_at (m d : EReal) (hm : val_main_v610 (F := Ideal) x0 x2 x3 x4 x5 x6 x7 x8 (ix4 b c h w) = m) (hd : val_main_v595 (F := Ideal) x0 x2 x3 x4 x5 x6 x7 x8 (ix4 b c h w) = d) :
    val_main_v615 (F := Ideal) x0 x2 x3 x4 x5 x6 x7 x8 (ix4 b c h w) = Ideal.log m - ((2 : ℝ) : EReal) * Ideal.log d := by
  rw [← lit_two]
  pointwise [val_main_v615, val_main_v611, val_main_v614, val_main_v613, val_main_cst_115, val_main_v612, hm, hd]

/-- The two tests of a point against the interval's ends. -/
theorem test_at (X : EReal) (hX : val_main_v16 (F := Ideal) x0 (ix4 b c h w) = X) :
    (val_main_v156 (F := Ideal) x0 (ix4 b c h w) = 1#1) ↔ inside X := by
  have e : val_main_v156 (F := Ideal) x0 (ix4 b c h w) = IntOp.andi (BitVec.ofBool (decide (((-3 : ℝ) : EReal) ≤ X))) (BitVec.ofBool (decide (X ≤ ((3 : ℝ) : EReal)))) := by
    rw [← lit_neg_three, ← lit_three]
    pointwise [val_main_v156, val_main_v153, val_main_v152, val_main_cst_9, val_main_v155, val_main_v154, val_main_cst_10, hX]
  rw [e, inside]
  generalize ((-3 : ℝ) : EReal) = m, ((3 : ℝ) : EReal) = n
  by_cases h1 : m ≤ X <;> by_cases h2 : X ≤ n <;> simp [h1, h2, IntOp.andi]

/-- The spline's part of the first result. -/
theorem part_at (y : EReal) (hy : val_main_v597 (F := Ideal) x0 x2 x3 x4 x5 x6 x7 x8 (ix4 b c h w) = y) (X : EReal) (hX : val_main_v16 (F := Ideal) x0 (ix4 b c h w) = X) (i : BitVec 1)
    (hi : val_main_v156 (F := Ideal) x0 (ix4 b c h w) = i) (z : EReal) (hz : val_main_v12 (F := Ideal) x0 (ix4 b c h w) = z) :
    val_main_v618 (F := Ideal) x0 x2 x3 x4 x5 x6 x7 x8 (ix4 b c h w) = z + (if i = 1#1 then y else X) := by
  pointwise [val_main_v618, val_main_v616, hy, hX, hi, hz]
  try rfl

/-- The masked logarithm of the derivative. -/
theorem mlog_at (y : EReal) (hy : val_main_v615 (F := Ideal) x0 x2 x3 x4 x5 x6 x7 x8 (ix4 b c h w) = y) (i : BitVec 1) (hi : val_main_v156 (F := Ideal) x0 (ix4 b c h w) = i) :
    val_main_v617 (F := Ideal) x0 x2 x3 x4 x5 x6 x7 x8 (ix4 b c h w) = if i = 1#1 then y else 0 := by
  pointwise [val_main_v617, val_main_call11_v1, val_main_call11_v0, val_main_cst_116, hy, hi]
  exact congrArg (fun v : EReal => if i = 1#1 then y else v) Ideal.ofBits_zero_f32

section
open Classical
variable (X : EReal) (E G D : ℕ → EReal)

/-- The spline's value, its numerator and its denominator at a point, from the edges and the derivatives of the point's spline. -/
theorem spline_at (hX : val_main_v16 (F := Ideal) x0 (ix4 b c h w) = X)
    (hE : ∀ k : Fin 9, val_main_v205 (F := Ideal) x0 x2 x3 x4 x5 x6 x7 x8 (ix5 b c h w k) = E k.val)
    (hG : ∀ k : Fin 9, val_main_v256 (F := Ideal) x0 x2 x3 x4 x5 x6 x7 x8 (ix5 b c h w k) = G k.val)
    (hD : ∀ k : Fin 9, val_main_v269 (F := Ideal) x0 x2 x3 x4 x5 x6 x7 x8 (ix5 b c h w k) = D k.val) (h0 : E 0 = ((-3 : ℝ) : EReal)) :
    val_main_v597 (F := Ideal) x0 x2 x3 x4 x5 x6 x7 x8 (ix4 b c h w) = val E G D X
      ∧ val_main_v610 (F := Ideal) x0 x2 x3 x4 x5 x6 x7 x8 (ix4 b c h w) = dnum E G D X ∧ val_main_v595 (F := Ideal) x0 x2 x3 x4 x5 x6 x7 x8 (ix4 b c h w) = den E G D X := by
  have hn := bin_lt E (clp X)
  have hI := idx_at x0 x2 x3 x4 x5 x6 x7 x8 b c h w X hX E hE h0
  have gW := gapW_at x0 x2 x3 x4 x5 x6 x7 x8 b c h w E hE
  have gH := gapH_at x0 x2 x3 x4 x5 x6 x7 x8 b c h w G hG
  have sW := selW_at x0 x2 x3 x4 x5 x6 x7 x8 b c h w E hE _ hn hI
  have sG := selG_at x0 x2 x3 x4 x5 x6 x7 x8 b c h w (fun n => E (n + 1) - E n) gW _ hn hI
  have sH := selH_at x0 x2 x3 x4 x5 x6 x7 x8 b c h w G hG _ hn hI
  have sK := selK_at x0 x2 x3 x4 x5 x6 x7 x8 b c h w (fun n => G (n + 1) - G n) gH _ hn hI
  have sS := selS_at x0 x2 x3 x4 x5 x6 x7 x8 b c h w (slope E G) (slope_at x0 x2 x3 x4 x5 x6 x7 x8 b c h w E G gW gH) _ hn hI
  have sL := selL_at x0 x2 x3 x4 x5 x6 x7 x8 b c h w D hD _ hn hI
  have sR := selR_at x0 x2 x3 x4 x5 x6 x7 x8 b c h w (fun n => D (n + 1)) (derR_at x0 x2 x3 x4 x5 x6 x7 x8 b c h w D hD) _ hn hI
  have ht := th_at x0 x2 x3 x4 x5 x6 x7 x8 b c h w _ _ _ (clip_at x0 b c h w X hX) sW sG
  have hu := tt_at x0 x2 x3 x4 x5 x6 x7 x8 b c h w _ ht
  have hd := den_at x0 x2 x3 x4 x5 x6 x7 x8 b c h w _ _ _ _ sS sL sR hu
  exact ⟨val_at x0 x2 x3 x4 x5 x6 x7 x8 b c h w _ _ _ _ _ _ _ sS sL ht hu sH sK hd, dnum_at x0 x2 x3 x4 x5 x6 x7 x8 b c h w _ _ _ _ _ sS sL sR ht hu, hd⟩

variable (hX : val_main_v16 (F := Ideal) x0 (ix4 b c h w) = X)
    (hE : ∀ k : Fin 9, val_main_v205 (F := Ideal) x0 x2 x3 x4 x5 x6 x7 x8 (ix5 b c h w k) = E k.val)
    (hG : ∀ k : Fin 9, val_main_v256 (F := Ideal) x0 x2 x3 x4 x5 x6 x7 x8 (ix5 b c h w k) = G k.val)
    (hD : ∀ k : Fin 9, val_main_v269 (F := Ideal) x0 x2 x3 x4 x5 x6 x7 x8 (ix5 b c h w k) = D k.val) (h0 : E 0 = ((-3 : ℝ) : EReal))
include hX hE hG hD h0

/-- The first result at a point. -/
theorem out_at (z : EReal) (hz : val_main_v12 (F := Ideal) x0 (ix4 b c h w) = z) : val_main_v618 (F := Ideal) x0 x2 x3 x4 x5 x6 x7 x8 (ix4 b c h w) = z + out E G D X := by
  rw [part_at x0 x2 x3 x4 x5 x6 x7 x8 b c h w _ (spline_at x0 x2 x3 x4 x5 x6 x7 x8 b c h w X E G D hX hE hG hD h0).1 X hX _ rfl z hz]
  exact congrArg (z + ·) (if_congr (test_at x0 b c h w X hX) rfl rfl)

/-- The term of the second result at a point. -/
theorem lad_at : val_main_v617 (F := Ideal) x0 x2 x3 x4 x5 x6 x7 x8 (ix4 b c h w) = lad E G D X := by
  have hs := (spline_at x0 x2 x3 x4 x5 x6 x7 x8 b c h w X E G D hX hE hG hD h0).2
  rw [mlog_at x0 x2 x3 x4 x5 x6 x7 x8 b c h w _ (log_at x0 x2 x3 x4 x5 x6 x7 x8 b c h w _ _ hs.1 hs.2) _ rfl]
  exact if_congr (test_at x0 b c h w X hX) rfl rfl

end

end Cert.ReferenceIdeal.Stage
end
-- ==== Proof.Ref4.lean ====
module

public import proofs.«01_k».proof.Proof.Gen.ReferenceIdeal.Read
public import proofs.«01_k».proof.Proof.Ref3
public import proofs.«01_k».proof.Proof.Goal
public import Idealize.ShloMosaic.Lib.Pointwise

@[expose] public section

set_option maxRecDepth 65536

noncomputable section

namespace Cert.ReferenceIdeal.Stage

open Idealize.ShloMosaic Idealize.ShloMosaic.TcCoe
open Cert.ReferenceIdeal Cert.ReferenceIdeal.Gen Cert.ReferenceIdeal.Read
open Cert.Spline

variable (x0 : FVec Ideal S16x12x128x128 .f32) (x2 : FVec Ideal S16x4x128x128 .f32) (x3 : FVec Ideal S64x16x3x3 .f32) (x4 : FVec Ideal S64 .f32)
    (x5 : FVec Ideal S64x64x1x1 .f32) (x6 : FVec Ideal S64 .f32) (x7 : FVec Ideal S276x64x3x3 .f32) (x8 : FVec Ideal S276 .f32) (b : Fin 16) (c : Fin 12) (h w : Fin 128)

/-- The network's output at a point. -/
theorem net_at (p : Fin 276) : val_main_v146 (F := Ideal) x0 x2 x3 x4 x5 x6 x7 x8 (ix4 b p h w) = (argsOf x0 x2 x3 x4 x5 x6 x7 x8 b).net h.val w.val p.val := by
  have hz := zin_at x0 x2 b (nat3 (argsOf x0 x2 x3 x4 x5 x6 x7 x8 b).x) (nat3 (argsOf x0 x2 x3 x4 x5 x6 x7 x8 b).y) (fun c h w => nat3_at (argsOf x0 x2 x3 x4 x5 x6 x7 x8 b).x c h w)
    (fun c h w => nat3_at (argsOf x0 x2 x3 x4 x5 x6 x7 x8 b).y c h w)
  exact (prm_at x0 x2 x3 x4 x5 x6 x7 x8 b (argsOf x0 x2 x3 x4 x5 x6 x7 x8 b).hid (fun o r w => hidB_at x0 x2 x3 x4 x5 x6 b _ hz o r w) p h w).trans ((argsOf x0 x2 x3 x4 x5 x6 x7 x8 b).net_at h.val w.val p)

/-- The edges of the widths at a point. -/
theorem edgesW (k : Fin 9) : val_main_v205 (F := Ideal) x0 x2 x3 x4 x5 x6 x7 x8 (ix5 b c h w k) = edg (fun j => (argsOf x0 x2 x3 x4 x5 x6 x7 x8 b).net h.val w.val (c.val * 23 + j.val)) k.val :=
  edgeW_at x0 x2 x3 x4 x5 x6 x7 x8 b c h w _ (fun j => (grpW_at x0 x2 x3 x4 x5 x6 x7 x8 b c h w j).trans (net_at x0 x2 x3 x4 x5 x6 x7 x8 b h w _)) k

/-- The edges of the heights at a point. -/
theorem edgesH (k : Fin 9) : val_main_v256 (F := Ideal) x0 x2 x3 x4 x5 x6 x7 x8 (ix5 b c h w k) = edg (fun j => (argsOf x0 x2 x3 x4 x5 x6 x7 x8 b).net h.val w.val (c.val * 23 + (8 + j.val))) k.val :=
  edgeH_at x0 x2 x3 x4 x5 x6 x7 x8 b c h w _ (fun j => (grpH_at x0 x2 x3 x4 x5 x6 x7 x8 b c h w j).trans (net_at x0 x2 x3 x4 x5 x6 x7 x8 b h w _)) k

/-- The derivatives at a point. -/
theorem ders (k : Fin 9) : val_main_v269 (F := Ideal) x0 x2 x3 x4 x5 x6 x7 x8 (ix5 b c h w k) = der (fun j => (argsOf x0 x2 x3 x4 x5 x6 x7 x8 b).net h.val w.val (c.val * 23 + (16 + j))) k.val :=
  der_at x0 x2 x3 x4 x5 x6 x7 x8 b c h w _ (fun j => (grpD_at x0 x2 x3 x4 x5 x6 x7 x8 b c h w j).trans (net_at x0 x2 x3 x4 x5 x6 x7 x8 b h w _)) _ (fun _ => rfl) k

/-- The first result at a point. -/
theorem out_point : val_main_v618 (F := Ideal) x0 x2 x3 x4 x5 x6 x7 x8 (ix4 b c h w) = (argsOf x0 x2 x3 x4 x5 x6 x7 x8 b).out c.val h.val w.val := by
  have e : x0 (ix4 b c h w) = nat3 (argsOf x0 x2 x3 x4 x5 x6 x7 x8 b).x c.val h.val w.val := nat3_at (argsOf x0 x2 x3 x4 x5 x6 x7 x8 b).x c h w
  rw [out_at x0 x2 x3 x4 x5 x6 x7 x8 b c h w _ _ _ _ (active_at x0 b c h w) (edgesW x0 x2 x3 x4 x5 x6 x7 x8 b c h w) (edgesH x0 x2 x3 x4 x5 x6 x7 x8 b c h w) (ders x0 x2 x3 x4 x5 x6 x7 x8 b c h w) (if_pos rfl) _ (frozen_at x0 b c h w), e]
  rfl

/-- The logarithm of the derivative at a point. -/
theorem lad_point : val_main_v617 (F := Ideal) x0 x2 x3 x4 x5 x6 x7 x8 (ix4 b c h w) = (argsOf x0 x2 x3 x4 x5 x6 x7 x8 b).lad c.val h.val w.val := by
  have e : x0 (ix4 b c h w) = nat3 (argsOf x0 x2 x3 x4 x5 x6 x7 x8 b).x c.val h.val w.val := nat3_at (argsOf x0 x2 x3 x4 x5 x6 x7 x8 b).x c h w
  rw [lad_at x0 x2 x3 x4 x5 x6 x7 x8 b c h w _ _ _ _ (active_at x0 b c h w) (edgesW x0 x2 x3 x4 x5 x6 x7 x8 b c h w) (edgesH x0 x2 x3 x4 x5 x6 x7 x8 b c h w) (ders x0 x2 x3 x4 x5 x6 x7 x8 b c h w) (if_pos rfl), e]
  rfl

/-- The second result at an image. -/
theorem tot_point (x1 : FVec Ideal S16 .f32) : val_main_v620 (F := Ideal) x0 x1 x2 x3 x4 x5 x6 x7 x8 (ix1 b) = x1 (ix1 b) + (argsOf x0 x2 x3 x4 x5 x6 x7 x8 b).tot := by
  have e : val_main_v619 (F := Ideal) x0 x2 x3 x4 x5 x6 x7 x8 (ix1 b) = (argsOf x0 x2 x3 x4 x5 x6 x7 x8 b).tot := by
    unfold val_main_v619
    rw [Idealize.ShloMosaic.ValueIdx.hostReduceAdd_apply]
    refine (sum_last3 _ _ _ b).trans ?_
    refine (congrArg (· + _) (show _ = (0 : EReal) from Ideal.ofBits_zero_f32)).trans ((zero_add _).trans ?_)
    exact Finset.sum_congr rfl fun c _ => Finset.sum_congr rfl fun h _ => Finset.sum_congr rfl fun w _ => lad_point x0 x2 x3 x4 x5 x6 x7 x8 b c h w
  rw [val_main_v620_apply, e]
  rfl

end Cert.ReferenceIdeal.Stage
end
-- ==== Proof.Join.lean ====
module

public import proofs.«01_k».proof.Proof.Point
public import proofs.«01_k».proof.Proof.Ref4

@[expose] public section

set_option maxRecDepth 65536

noncomputable section

namespace Cert.Join

open Idealize.ShloMosaic Idealize.ShloMosaic.TcCoe
open Cert.KernelIdeal Cert.KernelIdeal.Gen Cert.KernelIdeal.Body
open Cert.Spline

variable (m : (ℓ : Loc nD τ sig) → Buf (Elt Ideal) ℓ) (d : Dev nD) (x0 : FVec Ideal Cert.ReferenceIdeal.S16x12x128x128 .f32) (x2 : FVec Ideal Cert.ReferenceIdeal.S16x4x128x128 .f32) (x3 : FVec Ideal Cert.ReferenceIdeal.S64x16x3x3 .f32) (x4 : FVec Ideal Cert.ReferenceIdeal.S64 .f32) (x5 : FVec Ideal Cert.ReferenceIdeal.S64x64x1x1 .f32) (x6 : FVec Ideal Cert.ReferenceIdeal.S64 .f32) (x7 : FVec Ideal Cert.ReferenceIdeal.S276x64x3x3 .f32) (x8 : FVec Ideal Cert.ReferenceIdeal.S276 .f32)
  (h0 : x0 = (m ((d : Thread nD τ).loc main_arg0) : FVec Ideal S16x12x128x128 .f32)) (h2 : x2 = (m ((d : Thread nD τ).loc main_arg2) : FVec Ideal S16x4x128x128 .f32)) (h3 : x3 = (m ((d : Thread nD τ).loc main_arg3) : FVec Ideal S64x16x3x3 .f32)) (h4 : x4 = (m ((d : Thread nD τ).loc main_arg4) : FVec Ideal S64 .f32)) (h5 : x5 = (m ((d : Thread nD τ).loc main_arg5) : FVec Ideal S64x64x1x1 .f32)) (h6 : x6 = (m ((d : Thread nD τ).loc main_arg6) : FVec Ideal S64 .f32)) (h7 : x7 = (m ((d : Thread nD τ).loc main_arg7) : FVec Ideal S276x64x3x3 .f32)) (h8 : x8 = (m ((d : Thread nD τ).loc main_arg8) : FVec Ideal S276 .f32))
include h0 h2 h3 h4 h5 h6 h7 h8

/-- From the same arguments the reference's first result is the kernel's. -/
theorem same0 : Cert.ReferenceIdeal.Read.val_main_v618 (F := Ideal) x0 x2 x3 x4 x5 x6 x7 x8 = R0 m d := by
  have e : ∀ b, argsOf x0 x2 x3 x4 x5 x6 x7 x8 b = kargs m d b := fun b => by
    subst h0 h2 h3 h4 h5 h6 h7 h8
    rfl
  funext i
  obtain ⟨b, c, h, w, rfl⟩ : ∃ b c h w, i = ix4 b c h w := ⟨_, _, _, _, eq_ix4 i⟩
  refine (Cert.ReferenceIdeal.Stage.out_point x0 x2 x3 x4 x5 x6 x7 x8 b c h w).trans (Eq.trans ?_ (R0_at m d b c h w).symm)
  rw [e]

/-- From the same arguments the reference's second result is the kernel's. -/
theorem same1 (x1 : FVec Ideal Cert.ReferenceIdeal.S16 .f32) (h1 : x1 = (m ((d : Thread nD τ).loc main_arg1) : FVec Ideal S16 .f32)) :
    Cert.ReferenceIdeal.Read.val_main_v620 (F := Ideal) x0 x1 x2 x3 x4 x5 x6 x7 x8 = R1 m d := by
  have e : ∀ b, argsOf x0 x2 x3 x4 x5 x6 x7 x8 b = kargs m d b := fun b => by
    subst h0 h2 h3 h4 h5 h6 h7 h8
    rfl
  funext i
  obtain ⟨b, rfl⟩ : ∃ b, i = ix1 b := ⟨_, eq_ix1 i⟩
  refine (Cert.ReferenceIdeal.Stage.tot_point x0 x2 x3 x4 x5 x6 x7 x8 b x1).trans (Eq.trans ?_ (R1_at m d b).symm)
  rw [e, h1]
  rfl

end Cert.Join
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefRun
public import proofs.«01_k».proof.Proof.Join
public import Idealize.ShloMosaic.Adequacy
public import Idealize.ShloMosaic.Init

@[expose] public section

noncomputable section

namespace Cert.Proof

open Idealize.ShloMosaic Idealize.SL.Sem

/-- The three rounded constants of the kernel stand for the decimals they were rounded from. -/
theorem preserves : Cert.preserves_Kernel_KernelIdeal :=
  ⟨IdealRules.named_const.statement Cert.KernelIdeal.κ "bin_min" .f32 0x3BC49BA6#32 ((3 / 500 : ℝ) : EReal) rfl,
    IdealRules.named_const.statement Cert.KernelIdeal.κ "bin_scale" .f32 0x40BE76C9#32 ((744 / 125 : ℝ) : EReal) rfl,
    IdealRules.named_const.statement Cert.KernelIdeal.κ "milli" .f32 0x3A83126F#32 ((1 / 1000 : ℝ) : EReal) rfl⟩

/-- Over the extended reals the kernel and the reference end with the same two results. -/
theorem algebraic : Cert.algebraic_KernelIdeal_ReferenceIdeal := by
  intro m g m' g' hpre hagree
  refine ⟨Cert.KernelIdeal.Body.R0 m, Cert.KernelIdeal.Body.R1 m, Cert.KernelIdeal.Body.run m g, ?_⟩
  refine (θ_run Cert.ReferenceIdeal.defs _ _).mono (fun r h c => ?_) (Cert.ReferenceIdeal.Stage.run m' g')
  exact ⟨(h c).1.trans (Cert.Join.same0 m c _ _ _ _ _ _ _ _ (hagree c).1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2),
    (h c).2.1.trans (Cert.Join.same1 m c _ _ _ _ _ _ _ _ (hagree c).1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 _ (hagree c).2.1), (h c).2.2⟩

/-- The frames, the named constants and the value claim. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Stage.frame m ρ, preserves, algebraic⟩

end Cert.Proof

end
